-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_coords_not_negative [hPre_coords_not_negative : Cert.Pre_coords_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_coords_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coords_not_negative [hPre_coords_not_negative : Cert.Pre_coords_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_coords_not_negative [hKernelIdeal : Cert.KernelIdeal.Facts] [hPre_coords_not_negative : Cert.Pre_coords_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coords_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_coords_not_negative [hReferenceIdeal : Cert.ReferenceIdeal.Facts] [hPre_coords_not_negative : Cert.Pre_coords_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coords_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_coords_not_negative [hKernelIdeal : Cert.KernelIdeal.Facts] [hReferenceIdeal : Cert.ReferenceIdeal.Facts] [hPre_coords_not_negative : Cert.Pre_coords_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coords_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_coords_not_negative : Cert.Pre_coords_not_negative.Facts),
    quiescent_Kernel (hKernel := hKernel)
    ∧ quiescent_KernelIdeal (hKernelIdeal := hKernelIdeal)
    ∧ quiescent_KernelIdeal_pre_coords_not_negative (hKernelIdeal := hKernelIdeal) (hPre_coords_not_negative := hPre_coords_not_negative)
    ∧ quiescent_ReferenceIdeal (hReferenceIdeal := hReferenceIdeal)
    ∧ quiescent_ReferenceIdeal_pre_coords_not_negative (hReferenceIdeal := hReferenceIdeal) (hPre_coords_not_negative := hPre_coords_not_negative)
    ∧ preserves_Kernel_KernelIdeal
    ∧ algebraic_KernelIdeal_ReferenceIdeal_pre_coords_not_negative (hKernelIdeal := hKernelIdeal) (hReferenceIdeal := hReferenceIdeal) (hPre_coords_not_negative := hPre_coords_not_negative)
-- ==== Pre_coords_not_negative.lean ====
abbrev S16x64 : Shape := ⟨2, ![16, 64]⟩
abbrev S64x2 : Shape := ⟨2, ![64, 2]⟩
abbrev S512x512x1 : Shape := ⟨3, ![512, 512, 1]⟩
abbrev S_ : Shape := ⟨0, ![]⟩

class Facts : Prop where
  bcast_S_S64x2 : S_.BroadcastsInDim S64x2 (![] : Fin 0 → Fin S64x2.rank)
  reducesTo_S64x2_S_d0_1 : S64x2.ReducesTo [0, 1] S_
  h_S_ : 0 < S_.numel

variable [Facts]

def fn {F : FTy → Type} [FloatOps F] (main_arg0 : FVec F S16x64 .f32) (main_arg1 : IVec S64x2 32) (main_arg2 : FVec F S512x512x1 .f32) : IVec S_ 1 :=
  let main_c : IVec S_ 32 := constantI S_ 32 0#32
  let main_v0 : IVec S64x2 32 := broadcastInDim S64x2 ![] bcast_S_S64x2 main_c
  let main_v1 : IVec S64x2 1 := cmpi .sge main_arg1 main_v0
  let main_c_0 : IVec S_ 1 := constantI S_ 1 1#1
  let main_v2 : IVec S_ 1 := (fun x v => Host.reduce IntOp.andi x v reducesTo_S64x2_S_d0_1 h_S_) main_v1 main_c_0
  main_v2
-- ==== Kernel.lean ====
abbrev S16x64 : Shape := ⟨2, ![16, 64]⟩
abbrev S64x2 : Shape := ⟨2, ![64, 2]⟩
abbrev S512x512x1 : Shape := ⟨3, ![512, 512, 1]⟩
abbrev S512x512 : Shape := ⟨2, ![512, 512]⟩
abbrev S16x1x64 : Shape := ⟨3, ![16, 1, 64]⟩
abbrev S16x64x1 : Shape := ⟨3, ![16, 64, 1]⟩
abbrev S2x64 : Shape := ⟨2, ![2, 64]⟩
abbrev S16x5x512x512 : Shape := ⟨4, ![16, 5, 512, 512]⟩
abbrev S16x512x512x5 : Shape := ⟨4, ![16, 512, 512, 5]⟩
abbrev S1x1x64 : Shape := ⟨3, ![1, 1, 64]⟩
abbrev S1x64x1 : Shape := ⟨3, ![1, 64, 1]⟩
abbrev S1x5x512x512 : Shape := ⟨4, ![1, 5, 512, 512]⟩
abbrev S1x64 : Shape := ⟨2, ![1, 64]⟩
abbrev S64x1 : Shape := ⟨2, ![64, 1]⟩
abbrev S512x64 : Shape := ⟨2, ![512, 64]⟩
abbrev S64x64 : Shape := ⟨2, ![64, 64]⟩
abbrev S1x64x64 : Shape := ⟨3, ![1, 64, 64]⟩
abbrev S1 : Shape := ⟨1, ![1]⟩
abbrev S1x1x1 : Shape := ⟨3, ![1, 1, 1]⟩
abbrev S64x512 : Shape := ⟨2, ![64, 512]⟩
abbrev S1x1x512x512 : Shape := ⟨4, ![1, 1, 512, 512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16x64, .f32⟩
  | .hbm, ⟨1, _⟩ => ⟨S64x2, .i32⟩
  | .hbm, ⟨2, _⟩ => ⟨S512x512x1, .f32⟩
  | .hbm, ⟨3, _⟩ => ⟨S512x512, .f32⟩
  | .hbm, ⟨4, _⟩ => ⟨S16x1x64, .f32⟩
  | .hbm, ⟨5, _⟩ => ⟨S16x64x1, .f32⟩
  | .hbm, ⟨6, _⟩ => ⟨S2x64, .i32⟩
  | .hbm, ⟨7, _⟩ => ⟨S16x5x512x512, .f32⟩
  | .hbm, ⟨8, _⟩ => ⟨S16x512x512x5, .f32⟩
  | .local _ .vmem, ⟨0, _⟩ => ⟨S1x1x64, .f32⟩
  | .local _ .vmem, ⟨1, _⟩ => ⟨S1x1x64, .f32⟩
  | .local _ .vmem, ⟨2, _⟩ => ⟨S1x64x1, .f32⟩
  | .local _ .vmem, ⟨3, _⟩ => ⟨S1x64x1, .f32⟩
  | .local _ .vmem, ⟨4, _⟩ => ⟨S64x2, .i32⟩
  | .local _ .vmem, ⟨5, _⟩ => ⟨S2x64, .i32⟩
  | .local _ .vmem, ⟨6, _⟩ => ⟨S512x512, .f32⟩
  | .local _ .vmem, ⟨7, _⟩ => ⟨S1x5x512x512, .f32⟩
  | .local _ .vmem, ⟨8, _⟩ => ⟨S1x5x512x512, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x5x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x64 : Shape := ⟨2, ![16, 64]⟩
abbrev S64x2 : Shape := ⟨2, ![64, 2]⟩
abbrev S512x512x1 : Shape := ⟨3, ![512, 512, 1]⟩
abbrev S512 : Shape := ⟨1, ![512]⟩
abbrev S1x512x1 : Shape := ⟨3, ![1, 512, 1]⟩
abbrev S_ : Shape := ⟨0, ![]⟩
abbrev S16x512x512 : Shape := ⟨3, ![16, 512, 512]⟩
abbrev S16x1 : Shape := ⟨2, ![16, 1]⟩
abbrev S16x1x1 : Shape := ⟨3, ![16, 1, 1]⟩
abbrev S16x512x1 : Shape := ⟨3, ![16, 512, 1]⟩
abbrev S1x1x512 : Shape := ⟨3, ![1, 1, 512]⟩
abbrev S16 : Shape := ⟨1, ![16]⟩
abbrev S64x1 : Shape := ⟨2, ![64, 1]⟩
abbrev S64 : Shape := ⟨1, ![64]⟩
abbrev S1x64 : Shape := ⟨2, ![1, 64]⟩
abbrev S16x64x1 : Shape := ⟨3, ![16, 64, 1]⟩
abbrev S16x64x3 : Shape := ⟨3, ![16, 64, 3]⟩
abbrev S16x64x8 : Shape := ⟨3, ![16, 64, 8]⟩
abbrev S16x512 : Shape := ⟨2, ![16, 512]⟩
abbrev S16x1x64 : Shape := ⟨3, ![16, 1, 64]⟩
abbrev S16x64x64 : Shape := ⟨3, ![16, 64, 64]⟩
abbrev S16x64x8x64 : Shape := ⟨4, ![16, 64, 8, 64]⟩
abbrev S16x512x64 : Shape := ⟨3, ![16, 512, 64]⟩
abbrev S16x512x64x8 : Shape := ⟨4, ![16, 512, 64, 8]⟩
abbrev S1x512x512x1 : Shape := ⟨4, ![1, 512, 512, 1]⟩
abbrev S16x512x512x1 : Shape := ⟨4, ![16, 512, 512, 1]⟩
abbrev S16x512x512x5 : Shape := ⟨4, ![16, 512, 512, 5]⟩

abbrev nBuf : Space → Nat
  | .hbm => 144
  | .vmem => 0
  | .smem => 0
  | _ => 0

abbrev hbmTy0_0 (i : Nat) : BufTy := match i % 128 with
  | 0 => ⟨S16x64, .f32⟩
  | 1 => ⟨S64x2, .i32⟩
  | 2 => ⟨S512x512x1, .f32⟩
  | 3 => ⟨S512, .i32⟩
  | 4 => ⟨S512, .i32⟩
  | 5 => ⟨S1x512x1, .i32⟩
  | 6 => ⟨S_, .f32⟩
  | 7 => ⟨S16x512x512, .f32⟩
  | 8 => ⟨S_, .i32⟩
  | 9 => ⟨S_, .i32⟩
  | 10 => ⟨S16x64, .f32⟩
  | 11 => ⟨S1x512x1, .i32⟩
  | 12 => ⟨S512, .i32⟩
  | 13 => ⟨S_, .i32⟩
  | 14 => ⟨S_, .i32⟩
  | 15 => ⟨S16x512x512, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S16x1, .f32⟩
  | 36 => ⟨S_, .f32⟩
  | 37 => ⟨S16x1, .f32⟩
  | 38 => ⟨S16x1, .f32⟩
  | 39 => ⟨S16x1, .f32⟩
  | 40 => ⟨S16x1, .i32⟩
  | 41 => ⟨S_, .i32⟩
  | 42 => ⟨S_, .i32⟩
  | 43 => ⟨S_, .i32⟩
  | 44 => ⟨S16x1, .i32⟩
  | 45 => ⟨S16x1, .i32⟩
  | 46 => ⟨S_, .i32⟩
  | 47 => ⟨S16x1, .i32⟩
  | 48 => ⟨S16x1, .i32⟩
  | 49 => ⟨S16x1x1, .i32⟩
  | 50 => ⟨S16x512x1, .i32⟩
  | 51 => ⟨S16x512x1, .i32⟩
  | 52 => ⟨S16x512x1, .i1⟩
  | 53 => ⟨S16x512x1, .f32⟩
  | 54 => ⟨S_, .i32⟩
  | 55 => ⟨S512, .i32⟩
  | 56 => ⟨S512, .i1⟩
  | 57 => ⟨S_, .i32⟩
  | 58 => ⟨S512, .i32⟩
  | 59 => ⟨S512, .i1⟩
  | 60 => ⟨S512, .i1⟩
  | 61 => ⟨S512, .f32⟩
  | 62 => ⟨S1x1x512, .f32⟩
  | 63 => ⟨S16x512x512, .f32⟩
  | 64 => ⟨S_, .f32⟩
  | 65 => ⟨S16x512x512, .f32⟩
  | 66 => ⟨S16x512x512, .f32⟩
  | 67 => ⟨S16x512x512, .f32⟩
  | 68 => ⟨S16x512x512, .f32⟩
  | 69 => ⟨S16x512x512, .f32⟩
  | 70 => ⟨S16x512x512, .f32⟩
  | 71 => ⟨S_, .i32⟩
  | 72 => ⟨S_, .i32⟩
  | 73 => ⟨S_, .f32⟩
  | 74 => ⟨S16x512x512, .f32⟩
  | 75 => ⟨S16, .i32⟩
  | 76 => ⟨S16x1, .i32⟩
  | 77 => ⟨S64x1, .i32⟩
  | 78 => ⟨S64, .i32⟩
  | 79 => ⟨S1x64, .i32⟩
  | 80 => ⟨S64x1, .i32⟩
  | 81 => ⟨S64, .i32⟩
  | 82 => ⟨S1x64, .i32⟩
  | 83 => ⟨S_, .i32⟩
  | 84 => ⟨S16x1, .i32⟩
  | 85 => ⟨S16x1, .i1⟩
  | 86 => ⟨S_, .i32⟩
  | 87 => ⟨S16x1, .i32⟩
  | 88 => ⟨S16x1, .i32⟩
  | 89 => ⟨S16x1, .i32⟩
  | 90 => ⟨S_, .i32⟩
  | 91 => ⟨S1x64, .i32⟩
  | 92 => ⟨S1x64, .i1⟩
  | 93 => ⟨S_, .i32⟩
  | 94 => ⟨S1x64, .i32⟩
  | 95 => ⟨S1x64, .i32⟩
  | 96 => ⟨S1x64, .i32⟩
  | 97 => ⟨S_, .i32⟩
  | 98 => ⟨S1x64, .i32⟩
  | 99 => ⟨S1x64, .i1⟩
  | 100 => ⟨S_, .i32⟩
  | 101 => ⟨S1x64, .i32⟩
  | 102 => ⟨S1x64, .i32⟩
  | 103 => ⟨S1x64, .i32⟩
  | 104 => ⟨S16x64, .i32⟩
  | 105 => ⟨S16x64, .i32⟩
  | 106 => ⟨S16x64, .i32⟩
  | 107 => ⟨S16x64x1, .i32⟩
  | 108 => ⟨S16x64x1, .i32⟩
  | 109 => ⟨S16x64x1, .i32⟩
  | 110 => ⟨S16x64x3, .i32⟩
  | 111 => ⟨S16x512x512, .f32⟩
  | 112 => ⟨S16x64x8, .f32⟩
  | 113 => ⟨S16x512, .f32⟩
  | 114 => ⟨S16x512x1, .f32⟩
  | 115 => ⟨S16x512x512, .f32⟩
  | 116 => ⟨S16x64x1, .f32⟩
  | 117 => ⟨S16x1x64, .f32⟩
  | 118 => ⟨S16x64x64, .f32⟩
  | 119 => ⟨S16x64x64, .f32⟩
  | 120 => ⟨S16x64x64, .f32⟩
  | 121 => ⟨S16x64x64, .f32⟩
  | 122 => ⟨S_, .f32⟩
  | 123 => ⟨S16, .f32⟩
  | 124 => ⟨S16x1x1, .f32⟩
  | 125 => ⟨S_, .f32⟩
  | 126 => ⟨S16, .f32⟩
  | 127 => ⟨S16x1x1, .f32⟩
  | _ => ⟨S16x64, .f32⟩

abbrev hbmTy0_1 (i : Nat) : BufTy := match i % 128 with
  | 0 => ⟨S16x64x64, .f32⟩
  | 1 => ⟨S16x64x64, .f32⟩
  | 2 => ⟨S16x1x1, .f32⟩
  | 3 => ⟨S16x64x64, .f32⟩
  | 4 => ⟨S16x64x64, .f32⟩
  | 5 => ⟨S16x64x8x64, .f32⟩
  | 6 => ⟨S16x512x64, .f32⟩
  | 7 => ⟨S16x512x64x8, .f32⟩
  | 8 => ⟨S16x512x512, .f32⟩
  | 9 => ⟨S1x512x512x1, .f32⟩
  | 10 => ⟨S16x512x512x1, .f32⟩
  | 11 => ⟨S16x512x512x1, .f32⟩
  | 12 => ⟨S16x512x512x1, .f32⟩
  | 13 => ⟨S16x512x512x1, .f32⟩
  | 14 => ⟨S16x512x512x1, .f32⟩
  | 15 => ⟨S16x512x512x5, .f32⟩
  | _ => ⟨S16x64, .f32⟩

abbrev hbmTy (i : Nat) : BufTy := match i / 128 with
  | 0 => hbmTy0_0 i
  | 1 => hbmTy0_1 i
  | _ => ⟨S16x64, .f32⟩

abbrev bufTy : (tb : Table) → Fin (tcTables nBuf tb) → BufTy
  | .hbm, ⟨i, _⟩ => hbmTy i
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_15 : Ref sig .tc := ⟨.hbm, 16, rfl⟩
abbrev main_while0c_v67 : Ref sig .tc := ⟨.hbm, 17, rfl⟩
abbrev main_while0b_c_15 : Ref sig .tc := ⟨.hbm, 18, rfl⟩
abbrev main_while0b_v67 : Ref sig .tc := ⟨.hbm, 19, rfl⟩
abbrev main_while0b_c_16 : Ref sig .tc := ⟨.hbm, 20, rfl⟩
abbrev main_while0b_v68 : Ref sig .tc := ⟨.hbm, 21, rfl⟩
abbrev main_while0b_c_17 : Ref sig .tc := ⟨.hbm, 22, rfl⟩
abbrev main_while0b_v69 : Ref sig .tc := ⟨.hbm, 23, rfl⟩
abbrev main_while0b_c_18 : Ref sig .tc := ⟨.hbm, 24, rfl⟩
abbrev main_while0b_v70 : Ref sig .tc := ⟨.hbm, 25, rfl⟩
abbrev main_while0b_c_19 : Ref sig .tc := ⟨.hbm, 26, rfl⟩
abbrev main_while0b_v71 : Ref sig .tc := ⟨.hbm, 27, rfl⟩
abbrev main_while0b_c_20 : Ref sig .tc := ⟨.hbm, 28, rfl⟩
abbrev main_while0b_v72 : Ref sig .tc := ⟨.hbm, 29, rfl⟩
abbrev main_while0b_v73 : Ref sig .tc := ⟨.hbm, 30, rfl⟩
abbrev main_while0b_c_21 : Ref sig .tc := ⟨.hbm, 31, rfl⟩
abbrev main_while0b_v74 : Ref sig .tc := ⟨.hbm, 32, rfl⟩
abbrev main_while0b_v75 : Ref sig .tc := ⟨.hbm, 33, rfl⟩
abbrev main_while0b_c_22 : Ref sig .tc := ⟨.hbm, 34, rfl⟩
abbrev main_while0b_v76 : Ref sig .tc := ⟨.hbm, 35, rfl⟩
abbrev main_while0b_cst_23 : Ref sig .tc := ⟨.hbm, 36, rfl⟩
abbrev main_while0b_v77 : Ref sig .tc := ⟨.hbm, 37, rfl⟩
abbrev main_while0b_v78 : Ref sig .tc := ⟨.hbm, 38, rfl⟩
abbrev main_while0b_v79 : Ref sig .tc := ⟨.hbm, 39, rfl⟩
abbrev main_while0b_v80 : Ref sig .tc := ⟨.hbm, 40, rfl⟩
abbrev main_while0b_c_24 : Ref sig .tc := ⟨.hbm, 41, rfl⟩
abbrev main_while0b_c_25 : Ref sig .tc := ⟨.hbm, 42, rfl⟩
abbrev main_while0b_call1_v0 : Ref sig .tc := ⟨.hbm, 43, rfl⟩
abbrev main_while0b_call1_v1 : Ref sig .tc := ⟨.hbm, 44, rfl⟩
abbrev main_while0b_call1_v2 : Ref sig .tc := ⟨.hbm, 45, rfl⟩
abbrev main_while0b_call1_v3 : Ref sig .tc := ⟨.hbm, 46, rfl⟩
abbrev main_while0b_call1_v4 : Ref sig .tc := ⟨.hbm, 47, rfl⟩
abbrev main_while0b_v81 : Ref sig .tc := ⟨.hbm, 48, rfl⟩
abbrev main_while0b_v82 : Ref sig .tc := ⟨.hbm, 49, rfl⟩
abbrev main_while0b_v83 : Ref sig .tc := ⟨.hbm, 50, rfl⟩
abbrev main_while0b_v84 : Ref sig .tc := ⟨.hbm, 51, rfl⟩
abbrev main_while0b_v85 : Ref sig .tc := ⟨.hbm, 52, rfl⟩
abbrev main_while0b_v86 : Ref sig .tc := ⟨.hbm, 53, rfl⟩
abbrev main_while0b_v87 : Ref sig .tc := ⟨.hbm, 54, rfl⟩
abbrev main_while0b_v88 : Ref sig .tc := ⟨.hbm, 55, rfl⟩
abbrev main_while0b_v89 : Ref sig .tc := ⟨.hbm, 56, rfl⟩
abbrev main_while0b_v90 : Ref sig .tc := ⟨.hbm, 57, rfl⟩
abbrev main_while0b_v91 : Ref sig .tc := ⟨.hbm, 58, rfl⟩
abbrev main_while0b_v92 : Ref sig .tc := ⟨.hbm, 59, rfl⟩
abbrev main_while0b_v93 : Ref sig .tc := ⟨.hbm, 60, rfl⟩
abbrev main_while0b_v94 : Ref sig .tc := ⟨.hbm, 61, rfl⟩
abbrev main_while0b_v95 : Ref sig .tc := ⟨.hbm, 62, rfl⟩
abbrev main_while0b_v96 : Ref sig .tc := ⟨.hbm, 63, rfl⟩
abbrev main_while0b_cst_26 : Ref sig .tc := ⟨.hbm, 64, rfl⟩
abbrev main_while0b_v97 : Ref sig .tc := ⟨.hbm, 65, rfl⟩
abbrev main_while0b_v98 : Ref sig .tc := ⟨.hbm, 66, rfl⟩
abbrev main_while0b_v99 : Ref sig .tc := ⟨.hbm, 67, rfl⟩
abbrev main_while0b_v100 : Ref sig .tc := ⟨.hbm, 68, rfl⟩
abbrev main_while0b_v101 : Ref sig .tc := ⟨.hbm, 69, rfl⟩
abbrev main_while0b_v102 : Ref sig .tc := ⟨.hbm, 70, rfl⟩
abbrev main_while0b_c_27 : Ref sig .tc := ⟨.hbm, 71, rfl⟩
abbrev main_while0b_v103 : Ref sig .tc := ⟨.hbm, 72, rfl⟩
abbrev main_cst_1 : Ref sig .tc := ⟨.hbm, 73, rfl⟩
abbrev main_v5 : Ref sig .tc := ⟨.hbm, 74, rfl⟩
abbrev main_v6 : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_c_2 : Ref sig .tc := ⟨.hbm, 83, rfl⟩
abbrev main_v14 : Ref sig .tc := ⟨.hbm, 84, rfl⟩
abbrev main_v15 : Ref sig .tc := ⟨.hbm, 85, rfl⟩
abbrev main_c_3 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_c_4 : Ref sig .tc := ⟨.hbm, 90, rfl⟩
abbrev main_v19 : Ref sig .tc := ⟨.hbm, 91, rfl⟩
abbrev main_v20 : Ref sig .tc := ⟨.hbm, 92, rfl⟩
abbrev main_c_5 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_c_6 : Ref sig .tc := ⟨.hbm, 97, rfl⟩
abbrev main_v24 : Ref sig .tc := ⟨.hbm, 98, rfl⟩
abbrev main_v25 : Ref sig .tc := ⟨.hbm, 99, rfl⟩
abbrev main_c_7 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_cst_8 : Ref sig .tc := ⟨.hbm, 122, rfl⟩
abbrev main_v47 : Ref sig .tc := ⟨.hbm, 123, rfl⟩
abbrev main_v48 : Ref sig .tc := ⟨.hbm, 124, rfl⟩
abbrev main_cst_9 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩

abbrev nD : Nat := 1
abbrev τ : Topo := Topo.v7x

variable {F : FTy → Type} [FloatOps F]

abbrev main_while0_count : Scf.Loop 32 := ⟨0#32, 64#32, 1#32⟩
-- ==== Proof.Words.lean ====
/-
  FACTS ABOUT WORDS AND EXTENDED REALS that the kernel and the reference share: the zero-one value of a comparison's bit,
  the constant 512, a one-hot sum, the floor division of a small word by 8 as its instructions spell it, and the two orders
  of clipping a rounded value and converting it to an integer.
-/
module

public import Idealize.ShloMosaic.Lib.Pointwise
public import Idealize.ShloMosaic.Lib.ValueIdx
public import Idealize.ShloMosaic.Lib.MatmulPlain
public import Idealize.ShloMosaic.Lib.IdealHost

@[expose] public section

noncomputable section

namespace Cert.Image

open Idealize.ShloMosaic
open scoped BigOperators

/-- One where the proposition holds and zero elsewhere. -/
def ind (p : Prop) [Decidable p] : EReal := if p then 1 else 0

/-- Where the proposition holds its indicator is one. -/
theorem ind_true {p : Prop} [Decidable p] (h : p) : ind p = 1 := if_pos h
/-- Where the proposition fails its indicator is zero. -/
theorem ind_false {p : Prop} [Decidable p] (h : ¬p) : ind p = 0 := if_neg h

/-- Equivalent propositions have the same indicator. -/
theorem ind_congr {p q : Prop} [Decidable p] [Decidable q] (h : p ↔ q) : ind p = ind q := by
  unfold ind; exact if_congr h rfl rfl

/-- A bit widened to 32 bits and read as a signed number is its indicator. -/
theorem signed_bit (b : BitVec 1) : ((((b.setWidth 32).toInt : ℤ) : ℝ) : EReal) = ind (b = 1#1) := by
  rcases BitVec.eq_zero_or_eq_one b with rfl | rfl
  · rw [ind_false (by decide)]; simp
  · rw [ind_true rfl]; simp

/-- A bit read as an unsigned number is its indicator. -/
theorem unsigned_bit (b : BitVec 1) : (((b.toNat : ℕ) : ℝ) : EReal) = ind (b = 1#1) := by
  rcases BitVec.eq_zero_or_eq_one b with rfl | rfl
  · rw [ind_false (by decide)]; simp
  · rw [ind_true rfl]; simp

/-- A widened bit converted by the kernel's signed conversion is its indicator. -/
theorem sitofp_bit (b : BitVec 1) : (FloatOps.sitofp (F := Ideal) .f32 (b.setWidth 32) : EReal) = ind (b = 1#1) := signed_bit b

/-- A bit converted by the host's unsigned conversion is its indicator. -/
theorem uitofp_bit (b : BitVec 1) : (FloatOps.uitofp (F := Ideal) .f32 b : EReal) = ind (b = 1#1) := unsigned_bit b

/-- The bit of an equality test. -/
theorem cmpi_eq_iff {w : ℕ} (a b : BitVec w) : IntOp.cmpi .eq a b = 1#1 ↔ a = b := by
  unfold IntOp.cmpi
  cases h : a == b
  · simp [h, (beq_eq_false_iff_ne.1 h)]
  · simp [h, (beq_iff_eq.1 h)]

/-- The bit of a signed less-than test. -/
theorem cmpi_slt_iff {w : ℕ} (a b : BitVec w) : IntOp.cmpi .slt a b = 1#1 ↔ a.slt b = true := by
  unfold IntOp.cmpi
  cases h : a.slt b <;> simp [h]

/-- The bit of a signed at-least test. -/
theorem cmpi_sge_iff {w : ℕ} (a b : BitVec w) : IntOp.cmpi .sge a b = 1#1 ↔ b.sle a = true := by
  unfold IntOp.cmpi
  cases h : b.sle a <;> simp [h]

/-- The product of two indicators is the indicator of the conjunction. -/
theorem ind_mul (p q : Prop) [Decidable p] [Decidable q] : ind p * ind q = ind (p ∧ q) := by
  unfold ind
  by_cases hp : p <;> by_cases hq : q <;> simp [hp, hq]

/-- The word of the constant 512 denotes 512. -/
theorem const_512 : Ideal.ofBits .f32 0x44000000#32 = ((512 : ℝ) : EReal) := by
  simp [Ideal.ofBits, Ideal.ieee, -EReal.coe_mul]; norm_num

/-- A sum against a one-hot row is the entry the row selects. -/
theorem sum_onehot {n : ℕ} (k : Fin n) (f : Fin n → EReal) (p : Fin n → Prop) [DecidablePred p] (hp : ∀ i, p i ↔ i = k) :
    ∑ i, ind (p i) * f i = f k := by
  rw [Finset.sum_eq_single k (fun i _ hi => by rw [ind_false fun h => hi ((hp i).1 h), zero_mul])
    fun h => absurd (Finset.mem_univ k) h, ind_true ((hp k).2 rfl), one_mul]

/-- A sum against a one-hot column is the entry the column selects. -/
theorem sum_onehot_right {n : ℕ} (k : Fin n) (f : Fin n → EReal) (p : Fin n → Prop) [DecidablePred p] (hp : ∀ i, p i ↔ i = k) :
    ∑ i, f i * ind (p i) = f k :=
  (Finset.sum_congr rfl fun i _ => mul_comm _ _).trans (sum_onehot k f p hp)

/-- Two 32-bit words of numbers below `2 ^ 32` are equal exactly when the numbers are. -/
theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The floor division of a word by 8 as the kernel spells it: the truncated quotient, less one where the signs differ
    and the remainder is not zero. -/
def floorDiv8 (a : BitVec 32) : BitVec 32 :=
  Scalar.select
    (IntOp.andi
      (IntOp.cmpi .ne
        (IntOp.subi ((IntOp.cmpi .sgt a 0#32).setWidth 32) ((IntOp.cmpi .slt a 0#32).setWidth 32))
        (IntOp.subi ((IntOp.cmpi .sgt 8#32 0#32).setWidth 32) ((IntOp.cmpi .slt 8#32 0#32).setWidth 32)))
      (IntOp.cmpi .ne (IntOp.remsi .vector a 8#32) 0#32))
    (IntOp.subi (IntOp.divsi .vector a 8#32) 1#32) (IntOp.divsi .vector a 8#32)

/-- Below 512 it is the word of the quotient. -/
theorem floorDiv8_ofNat : ∀ n : Fin 512, floorDiv8 (BitVec.ofNat 32 n) = BitVec.ofNat 32 (n / 8) := by decide

/-- The word of +∞ denotes the top element. -/
theorem const_top : Ideal.ofBits .f32 0x7F800000#32 = ⊤ := by
  simp [Ideal.ofBits, Ideal.ieee]

/-- The word of −∞ denotes the bottom element. -/
theorem const_bot : Ideal.ofBits .f32 0xFF800000#32 = ⊥ := by
  simp [Ideal.ofBits, Ideal.ieee]

/-- The conversion to a 32-bit word, its bounds in digits. -/
theorem toWord_eq (x : EReal) : Ideal.fptosi 32 x = BitVec.ofInt 32 (Ideal.toIntClamped (-2147483648) 2147483647 x) := rfl

/-- An integer-valued real converts to the word of that integer clipped to the signed range. -/
theorem toWord_int (n : ℤ) : Ideal.fptosi 32 (((n : ℝ)) : EReal) = BitVec.ofInt 32 (max (-2147483648) (min 2147483647 n)) := by
  rw [toWord_eq]
  refine congrArg (BitVec.ofInt 32) ?_
  show max _ (min _ (if (0 : ℝ) ≤ (n : ℝ) then ⌊(n : ℝ)⌋ else ⌈(n : ℝ)⌉)) = _
  rw [Int.floor_intCast, Int.ceil_intCast, ite_self]

/-- Clipping words to [0, 512] after the conversion, for a number in the signed range. -/
theorem clip_word (n : ℤ) (h1 : -2147483648 ≤ n) (h2 : n ≤ 2147483647) :
    IntOp.minsi 512#32 (IntOp.maxsi 0#32 (BitVec.ofInt 32 n)) = BitVec.ofInt 32 (min 512 (max 0 n)) := by
  have hn : (BitVec.ofInt 32 n).toInt = n := by
    rw [BitVec.toInt_ofInt]; exact Int.bmod_eq_of_le (by omega) (by omega)
  have e0 : (0#32 : BitVec 32).toInt = 0 := by decide
  have e5 : (512#32 : BitVec 32).toInt = 512 := by decide
  unfold IntOp.minsi IntOp.maxsi
  by_cases h : n < 0
  · have c : (BitVec.ofInt 32 n).slt 0#32 = true := by simp only [BitVec.slt, hn, e0, decide_eq_true h]
    rw [c, if_pos rfl, max_eq_left h.le]; decide
  · have c : (BitVec.ofInt 32 n).slt 0#32 = false := by simp only [BitVec.slt, hn, e0, decide_eq_false h]
    rw [c, if_neg Bool.false_ne_true, max_eq_right (by omega)]
    by_cases h' : 512 < n
    · have c' : (512#32 : BitVec 32).slt (BitVec.ofInt 32 n) = true := by simp only [BitVec.slt, hn, e5, decide_eq_true h']
      rw [c', if_pos rfl, min_eq_left h'.le]; decide
    · have c' : (512#32 : BitVec 32).slt (BitVec.ofInt 32 n) = false := by simp only [BitVec.slt, hn, e5, decide_eq_false h']
      rw [c', if_neg Bool.false_ne_true, min_eq_right (by omega)]

/-- The conversion of zero. -/
theorem toWord_zero : Ideal.fptosi 32 (0 : EReal) = 0#32 := by
  have h := toWord_int 0
  rw [Int.cast_zero, EReal.coe_zero] at h
  exact h.trans (by decide)

/-- The conversion of 512. -/
theorem toWord_512 : Ideal.fptosi 32 ((512 : ℝ) : EReal) = 512#32 := by
  have h := toWord_int 512
  rw [Int.cast_ofNat] at h
  exact h.trans (by decide)

/-- Clipping a rounded value to [0, 512] and then converting it gives the word of converting first and clipping the
    word. -/
theorem clip_then_convert (f : ℝ → ℤ) (y : EReal) :
    Ideal.fptosi 32 (min ((512 : ℝ) : EReal) (max 0 (Ideal.liftRound f y)))
      = IntOp.minsi 512#32 (IntOp.maxsi 0#32 (Ideal.fptosi 32 (Ideal.liftRound f y))) := by
  have h0 : (0 : EReal) ≤ ((512 : ℝ) : EReal) := by
    rw [← EReal.coe_zero, EReal.coe_le_coe_iff]; norm_num
  induction y using EReal.rec with
  | bot =>
    have e : Ideal.liftRound f ⊥ = ⊥ := rfl
    have e' : Ideal.fptosi 32 (⊥ : EReal) = BitVec.ofInt 32 (-2147483648) := rfl
    rw [e, max_eq_left bot_le, min_eq_right h0, e', clip_word _ (by norm_num) (by norm_num), toWord_zero]
    decide
  | top =>
    have e : Ideal.liftRound f ⊤ = ⊤ := rfl
    have e' : Ideal.fptosi 32 (⊤ : EReal) = BitVec.ofInt 32 2147483647 := rfl
    rw [e, max_eq_right le_top, min_eq_left le_top, e', clip_word _ (by norm_num) (by norm_num), toWord_512]
    decide
  | coe r =>
    have e : Ideal.liftRound f ((r : ℝ) : EReal) = (((f r : ℤ) : ℝ) : EReal) := rfl
    have e' : min ((512 : ℝ) : EReal) (max 0 (((f r : ℤ) : ℝ) : EReal)) = (((min 512 (max 0 (f r)) : ℤ) : ℝ) : EReal) := by
      rw [← EReal.coe_zero, ← EReal.coe_strictMono.monotone.map_max, ← EReal.coe_strictMono.monotone.map_min]
      push_cast; rfl
    rw [e, e', toWord_int, toWord_int, clip_word _ (by omega) (by omega)]
    congr 1; omega

end Cert.Image

end
-- ==== Proof.Image.lean ====
/-
  THE IMAGE BOTH PROGRAMS COMPUTE, entry by entry over the extended reals: five channels of a 512 × 512 picture of one
  sample's 64 features.
-/
module

public import proofs.«01_k».proof.Proof.Words

@[expose] public section

noncomputable section

namespace Cert.Image

open Idealize.ShloMosaic
open scoped BigOperators

/-- Channel 1: the sum of the features whose coordinates are the pixel. -/
def dots (v : Fin 64 → EReal) (r c : Fin 64 → BitVec 32) (h w : Fin 512) : EReal :=
  ∑ d, ind (r d = BitVec.ofNat 32 h ∧ c d = BitVec.ofNat 32 w) * v d

/-- The group of 8 rows or columns that a pixel's row or column lies in. -/
def grp (h : Fin 512) : Fin 64 := ⟨h / 8, by omega⟩

/-- The absolute difference of two features. -/
def dist (v : Fin 64 → EReal) (i j : Fin 64) : EReal := max (v i - v j) (-(v i - v j))

/-- The least absolute difference over all pairs of features. -/
def low (v : Fin 64 → EReal) : EReal :=
  (Finset.univ : Finset (Fin 64 × Fin 64)).fold min ⊤ fun k => dist v k.1 k.2

/-- The greatest absolute difference over all pairs of features. -/
def high (v : Fin 64 → EReal) : EReal :=
  (Finset.univ : Finset (Fin 64 × Fin 64)).fold max ⊥ fun k => dist v k.1 k.2

/-- Channel 3's value for a pair of features: their absolute difference scaled to the range of all of them. -/
def scaled (v : Fin 64 → EReal) (i j : Fin 64) : EReal := Ideal.div (dist v i j - low v) (high v - low v)

/-- A bar's height as a word: the feature times 512, rounded half to even, converted and clipped to [0, 512]. -/
def height (e : EReal) : BitVec 32 :=
  IntOp.minsi 512#32 (IntOp.maxsi 0#32 (Ideal.fptosi 32 (Ideal.liftRound Ideal.roundHalfEven (e * ((512 : ℝ) : EReal)))))

/-- One on the rows a feature's bar reaches. -/
def rises (e : EReal) (h : Fin 512) : EReal := ind ((BitVec.ofNat 32 h).slt (height e) = true)

/-- One on the two columns of bar `d`. -/
def stands (d : Fin 64) (w : Fin 512) : EReal := ind (34 + 7 * (d : ℕ) ≤ w ∧ (w : ℕ) < 36 + 7 * d)

/-- Channel 4: the bar graph. -/
def bars (v : Fin 64 → EReal) (h w : Fin 512) : EReal := ∑ d, rises (v d) h * stands d w

/-- The five channels of a pixel. -/
def pixel (v : Fin 64 → EReal) (r c : Fin 64 → BitVec 32) (s : Fin 512 → Fin 512 → EReal) (h w : Fin 512) : Fin 5 → EReal :=
  ![s h w, dots v r c h w, v (grp h), scaled v (grp h) (grp w), bars v h w]

/-- The word of a pixel's row, floor-divided by 8 and compared with a feature's number. -/
theorem grp_iff (h : Fin 512) (d : Fin 64) : floorDiv8 (BitVec.ofNat 32 h) = BitVec.ofNat 32 d ↔ d = grp h := by
  rw [floorDiv8_ofNat, ofNat_eq_iff (by omega) (by omega)]
  constructor
  · intro e; exact Fin.ext e.symm
  · rintro rfl; rfl

/-- The signed value of the word of an integer in range. -/
theorem toInt_word (n : ℤ) (h1 : -2147483648 ≤ n) (h2 : n ≤ 2147483647) : (BitVec.ofInt 32 n).toInt = n := by
  rw [BitVec.toInt_ofInt]; exact Int.bmod_eq_of_le (by omega) (by omega)

/-- The kernel's test of a column against a bar: the offset from the bar's first column is at least 0 and below 2. -/
theorem stands_kernel (d : Fin 64) (w : Fin 512) :
    IntOp.andi
      (IntOp.cmpi .sge (IntOp.subi (BitVec.ofNat 32 w) (IntOp.addi 34#32 (IntOp.muli 7#32 (BitVec.ofNat 32 d)))) 0#32)
      (IntOp.cmpi .slt (IntOp.subi (BitVec.ofNat 32 w) (IntOp.addi 34#32 (IntOp.muli 7#32 (BitVec.ofNat 32 d)))) 2#32) = 1#1
    ↔ (34 + 7 * (d : ℕ) ≤ w ∧ (w : ℕ) < 36 + 7 * d) := by
  have e : IntOp.subi (BitVec.ofNat 32 w) (IntOp.addi 34#32 (IntOp.muli 7#32 (BitVec.ofNat 32 d)))
      = BitVec.ofInt 32 ((w : ℤ) - (34 + 7 * (d : ℤ))) := by
    show BitVec.ofNat 32 w - (34#32 + 7#32 * BitVec.ofNat 32 d) = _
    have e' : 34#32 + 7#32 * BitVec.ofNat 32 d = BitVec.ofInt 32 (34 + 7 * (d : ℤ)) := by
      rw [BitVec.ofInt_add, BitVec.ofInt_mul]; rfl
    rw [e', BitVec.sub_eq_iff_eq_add, ← BitVec.ofInt_add, sub_add_cancel]
    rfl
  rw [e]
  have hi := toInt_word ((w : ℤ) - (34 + 7 * (d : ℤ))) (by omega) (by omega)
  have e0 : (0#32 : BitVec 32).toInt = 0 := by decide
  have e2 : (2#32 : BitVec 32).toInt = 2 := by decide
  unfold IntOp.cmpi IntOp.andi
  simp only [BitVec.slt, BitVec.sle, hi, e0, e2]
  by_cases h1 : (0 : ℤ) ≤ (w : ℤ) - (34 + 7 * (d : ℤ)) <;> by_cases h2 : (w : ℤ) - (34 + 7 * (d : ℤ)) < 2 <;>
    simp only [h1, h2, decide_true, decide_false] <;> constructor <;> intro hh <;> first
      | omega
      | (exact absurd hh (by decide))
      | rfl

/-- The reference's test of a column against a bar: at least the bar's first column and below its end. -/
theorem stands_reference (d : Fin 64) (w : Fin 512) :
    IntOp.andi
      (IntOp.cmpi .sge (BitVec.ofNat 32 w) (IntOp.addi (IntOp.addi 29#32 (IntOp.muli (BitVec.ofNat 32 d) 7#32)) 5#32))
      (IntOp.cmpi .slt (BitVec.ofNat 32 w)
        (IntOp.addi (IntOp.addi (IntOp.addi 29#32 (IntOp.muli (BitVec.ofNat 32 d) 7#32)) 5#32) 2#32)) = 1#1
    ↔ (34 + 7 * (d : ℕ) ≤ w ∧ (w : ℕ) < 36 + 7 * d) := by
  have e : IntOp.addi (IntOp.addi 29#32 (IntOp.muli (BitVec.ofNat 32 d) 7#32)) 5#32 = BitVec.ofInt 32 (29 + (d : ℤ) * 7 + 5) := by
    rw [BitVec.ofInt_add, BitVec.ofInt_add, BitVec.ofInt_mul]; rfl
  have e' : IntOp.addi (BitVec.ofInt 32 (29 + (d : ℤ) * 7 + 5)) 2#32 = BitVec.ofInt 32 (29 + (d : ℤ) * 7 + 5 + 2) :=
    by
    rw [BitVec.ofInt_add _ 2]; rfl
  have ew : BitVec.ofNat 32 (w : ℕ) = BitVec.ofInt 32 (w : ℤ) := rfl
  rw [e, e', ew]
  have hi := toInt_word (29 + (d : ℤ) * 7 + 5) (by omega) (by omega)
  have hi' := toInt_word (29 + (d : ℤ) * 7 + 5 + 2) (by omega) (by omega)
  have hw := toInt_word (w : ℤ) (by omega) (by omega)
  unfold IntOp.cmpi IntOp.andi
  simp only [BitVec.slt, BitVec.sle, hi, hi', hw]
  by_cases h1 : 29 + (d : ℤ) * 7 + 5 ≤ (w : ℤ) <;> by_cases h2 : (w : ℤ) < 29 + (d : ℤ) * 7 + 5 + 2 <;>
    simp only [h1, h2, decide_true, decide_false] <;> constructor <;> intro hh <;> first
      | omega
      | (exact absurd hh (by decide))
      | rfl

/-- Drawing bar `d` over what the earlier bars left: outside its columns nothing changes and on them, where no earlier
    bar stands, its own rows are drawn. -/
theorem draw (v : Fin 64 → EReal) (h w : Fin 512) (d : Fin 64) :
    (∑ i : Fin 64, if (i : ℕ) < d then rises (v i) h * stands i w else 0) * (1 - stands d w) + rises (v d) h * stands d w
      = ∑ i : Fin 64, if (i : ℕ) < d + 1 then rises (v i) h * stands i w else 0 := by
  have split : (∑ i : Fin 64, if (i : ℕ) < d + 1 then rises (v i) h * stands i w else 0)
      = (∑ i : Fin 64, if (i : ℕ) < d then rises (v i) h * stands i w else 0) + rises (v d) h * stands d w := by
    have e : ∀ i : Fin 64, (if (i : ℕ) < d + 1 then rises (v i) h * stands i w else 0)
        = (if (i : ℕ) < d then rises (v i) h * stands i w else 0) + if i = d then rises (v i) h * stands i w else 0 := by
      intro i
      by_cases h1 : (i : ℕ) < d
      · rw [if_pos h1, if_pos (by omega), if_neg (fun h => h1.ne (congrArg Fin.val h)), add_zero]
      · by_cases h2 : i = d
        · subst h2; rw [if_neg h1, if_pos rfl, if_pos (by omega), zero_add]
        · have := Fin.val_ne_of_ne h2
          rw [if_neg h1, if_neg h2, if_neg (by omega), add_zero]
    rw [Finset.sum_congr rfl fun i _ => e i, Finset.sum_add_distrib, Finset.sum_ite_eq' Finset.univ d, if_pos (Finset.mem_univ d)]
  rw [split]
  by_cases hs : 34 + 7 * (d : ℕ) ≤ w ∧ (w : ℕ) < 36 + 7 * d
  · have z : (∑ i : Fin 64, if (i : ℕ) < d then rises (v i) h * stands i w else 0) = 0 := by
      refine Finset.sum_eq_zero fun i _ => ?_
      by_cases h1 : (i : ℕ) < d
      · rw [if_pos h1, stands, ind_false (by omega), mul_zero]
      · rw [if_neg h1]
    rw [z, zero_mul]
  · rw [stands, ind_false hs, sub_zero, mul_one]

end Cert.Image

end
-- ==== Proof.Block.lean ====
/-
  WHAT ONE GRID STEP STORES: each of the five stored channels read at a pixel, from the blocks the step loads.
-/
module

public import proofs.«01_k».proof.Proof.Image
public import proofs.«01_k».proof.Proof.Gen.KernelIdeal.Frame

@[expose] public section

noncomputable section

namespace Cert.Block

open Idealize.ShloMosaic Cert.KernelIdeal Cert.KernelIdeal.Gen Cert.Image
open scoped BigOperators

/-- The single row tile starts at row 0. -/
theorem row_word (a : BitVec 32) : IntOp.addi a (Scalar.muli 0#32 512#32) = a := by
  show a + 0#32 * 512#32 = a
  simp

/-- Channel 0 is the fixed picture. -/
theorem stored_0 (x4 : Vec Ideal S512x512 .f32) (h w : Fin 512) :
    k0_pay19 (F := Ideal) x4 (ix4 0 0 h w) = x4 (ix2 h w) := by
  unfold_payloads
  pointwise

/-- Channel 1 is the features scattered at their coordinates. -/
theorem stored_1 (i : grid0.Coords) (x0 : Vec Ideal S1x1x64 .f32) (x3 : Vec Ideal S1x64 .i32) (x2 : Vec Ideal S64x1 .i32)
    (h w : Fin 512) :
    k0_pay20 (F := Ideal) (k0_pay7 i x0 x3) (k0_pay14 x2) (ix4 0 0 h w)
      = dots (fun d => x0 (ix3 0 0 d)) (fun d => x3 (ix2 0 d)) (fun d => x2 (ix2 d 0)) h w := by
  unfold_payloads
  pointwise
  refine Finset.sum_congr rfl fun d _ => ?_
  rw [row_word, sitofp_bit, sitofp_bit, mul_right_comm, ind_mul]
  refine congrArg (· * _) (ind_congr ?_)
  rw [cmpi_eq_iff, cmpi_eq_iff, eq_comm, @eq_comm _ (BitVec.ofNat 32 w)]

/-- Channel 2 is the feature of the pixel's row group. -/
theorem stored_2 (i : grid0.Coords) (x1 : Vec Ideal S1x64x1 .f32) (h w : Fin 512) :
    k0_pay1 (F := Ideal) (k0_pay5 x1) (k0_pay11 (iota .tc S512x64 32 [1] iota_S512x64_d1_w32) (k0_pay8 i) (k0_pay9 i) k0_pay10)
      (constant S512x1 .f32 0x00000000#32) (ix4 0 0 h w) = x1 (ix3 0 (grp h) 0) := by
  unfold_payloads
  pointwise
  simp only [row_word, sitofp_bit, cmpi_eq_iff]
  exact sum_onehot (grp h) (fun d => x1 (ix3 0 d 0)) _ fun d => grp_iff h d

/-- Channel 3 is the scaled absolute difference of the pixel's two group features. -/
theorem stored_3 (i : grid0.Coords) (x0 : Vec Ideal S1x1x64 .f32) (x1 : Vec Ideal S1x64x1 .f32) (v : Fin 64 → EReal)
    (h0 : ∀ d, x0 (ix3 0 0 d) = v d) (h1 : ∀ d, x1 (ix3 0 d 0) = v d) (h w : Fin 512) :
    k0_pay2 (F := Ideal)
      (k0_pay12 (k0_pay4 x0) (k0_pay5 x1) (iota .tc S512x64 32 [1] iota_S512x64_d1_w32) (k0_pay8 i) (k0_pay9 i) k0_pay10)
      (k0_pay17 (iota .tc S64x512 32 [1] iota_S64x512_d1_w32) (iota .tc S64x512 32 [0] iota_S64x512_d0_w32) 8#32 k0_pay15
        k0_pay16 0#32) (ix4 0 0 h w) = scaled v (grp h) (grp w) := by
  unfold_payloads
  pointwise
  simp only [row_word, sitofp_bit, cmpi_eq_iff, h0, h1, const_top, const_bot]
  refine (Finset.sum_congr rfl fun e _ => congrArg (· * _)
    (sum_onehot (grp h) (fun d => scaled v d e) _ fun d => grp_iff h d)).trans ?_
  exact sum_onehot_right (grp w) (fun e => scaled v (grp h) e) _ fun e => grp_iff w e

/-- Channel 4 is the bar graph. -/
theorem stored_4 (i : grid0.Coords) (x0 : Vec Ideal S1x1x64 .f32) (h w : Fin 512) :
    k0_pay3 (F := Ideal) (k0_pay13 (k0_pay4 x0) (k0_pay6 i))
      (k0_pay18 (iota .tc S64x512 32 [1] iota_S64x512_d1_w32) (iota .tc S64x512 32 [0] iota_S64x512_d0_w32)) (ix4 0 0 h w)
      = bars (fun d => x0 (ix3 0 0 d)) h w := by
  unfold_payloads
  pointwise
  refine Finset.sum_congr rfl fun d _ => ?_
  rw [row_word, sitofp_bit, sitofp_bit, const_512]
  refine congrArg₂ (· * ·) (ind_congr ?_) (ind_congr (stands_kernel d w))
  rw [cmpi_slt_iff]
  refine iff_of_eq (congrArg (fun t => BitVec.slt (BitVec.ofNat 32 h) t = true) ?_)
  exact clip_then_convert Ideal.roundHalfEven _

end Cert.Block

end
-- ==== Proof.Array.lean ====
/-
  WHAT THE KERNEL'S RESULT ARRAY HOLDS: one grid step's block pixel by pixel, the blocks it loads from the arguments, the
  written array, and the result after the last transposition.
-/
module

public import proofs.«01_k».proof.Proof.Block
public import Idealize.ShloMosaic.Lib.Pipeline.ValueKit
public import Idealize.ShloMosaic.Lib.StableHlo.ReadAt
public import Idealize.ShloMosaic.Lib.Claim

@[expose] public section

noncomputable section

namespace Cert.Array

open Idealize.ShloMosaic Idealize.ShloMosaic.TcCoe Idealize.SL.Sem Cert.KernelIdeal Cert.KernelIdeal.Gen Cert.Image Cert.Block
open scoped BigOperators

/-- An index of one stored channel is its row and its column. -/
theorem eq_plane (x : S1x1x512x512.Idx) : ∃ h w : Fin 512, x = ix4 0 0 h w := by
  refine ⟨x 2, x 3, ?_⟩
  funext a
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

/-- A pixel's channel, row and column given as equal numbers. -/
theorem pixel_at {v : Fin 64 → EReal} {r c : Fin 64 → BitVec 32} {s : Fin 512 → Fin 512 → EReal} {h w h' w' : Fin 512}
    {k k' : Fin 5} (hh : (h : ℕ) = h') (hw : (w : ℕ) = w') (hk : (k : ℕ) = k') : pixel v r c s h w k = pixel v r c s h' w' k' := by
  rw [Fin.ext hh, Fin.ext hw, Fin.ext hk]

/-- Row 0 of the transposed coordinates, as the step loads it. -/
theorem ld_row (x : Vec Ideal S2x64 .i32) (d : Fin 64) : View.ld x r0_2 (ix2 0 d) = x (ix2 0 d) :=
  congrArg x (by funext a; apply Fin.ext; match a with
    | ⟨0, _⟩ => rfl
    | ⟨1, _⟩ => show 0 + 1 * (d : ℕ) = d; omega)

/-- Column 1 of the coordinates, as the step loads it. -/
theorem ld_col (x : Vec Ideal S64x2 .i32) (d : Fin 64) : View.ld x r0_3 (ix2 d 0) = x (ix2 d 1) :=
  congrArg x (by funext a; apply Fin.ext; match a with
    | ⟨0, _⟩ => show 0 + 1 * (d : ℕ) = d; omega
    | ⟨1, _⟩ => rfl)

/-- The offset zero along two axes, and along three. -/
theorem hz2 : (![0, 0] : Fin 2 → ℕ) = fun _ => 0 := funext fun a => by fin_cases a <;> rfl
@[inherit_doc hz2] theorem hz3 : (![0, 0, 0] : Fin 3 → ℕ) = fun _ => 0 := funext fun a => by fin_cases a <;> rfl

/-- A step's block at a channel and a pixel. -/
theorem block_pixel (i : grid0.Coords) (x0 : Vec Ideal S1x1x64 .f32) (x1 : Vec Ideal S1x64x1 .f32) (x2 : Vec Ideal S64x2 .i32)
    (x3 : Vec Ideal S2x64 .i32) (x4 : Vec Ideal S512x512 .f32) (v : Fin 64 → EReal) (h0 : ∀ d, x0 (ix3 0 0 d) = v d)
    (h1 : ∀ d, x1 (ix3 0 d 0) = v d) (y : S1x5x512x512.Idx) :
    out0_5 (F := Ideal) i x0 x1 x2 x3 x4 y
      = pixel v (fun d => x3 (ix2 0 d)) (fun d => x2 (ix2 d 1)) (fun h w => x4 (ix2 h w)) (y 2) (y 3) (y 1) := by
  unfold_out out0_5
  rw [View.ld_unit_zero hz3, View.ld_unit_zero hz3, View.ld_unit_zero hz2]
  canon_tiles x hx using Gen.cover0_5 ..
  all_goals obtain ⟨h, w, rfl⟩ := eq_plane x
  · rw [stored_4]
    exact (congrArg (fun f => bars f _ _) (funext h0)).trans (pixel_at (k := 4) hx2.symm hx3.symm hx1.symm)
  · rw [stored_3 i x0 x1 v h0 h1]
    exact pixel_at (k := 3) hx2.symm hx3.symm hx1.symm
  · rw [stored_2, h1]
    exact pixel_at (k := 2) hx2.symm hx3.symm hx1.symm
  · rw [stored_1]
    refine (congrArg (fun f => dots f _ _ h w) (funext h0)).trans ?_
    refine (congrArg (fun r => dots v r _ h w) (funext (ld_row x3))).trans ?_
    refine (congrArg (fun c => dots v _ c h w) (funext (ld_col x2))).trans ?_
    exact (pixel_at (v := v) (r := fun d => x3 (ix2 0 d)) (c := fun d => x2 (ix2 d 1)) (s := fun h w => x4 (ix2 h w)) (h := h) (w := w)
        (k := 1) hx2.symm hx3.symm hx1.symm)
  · rw [stored_0]
    exact pixel_at (v := v) (r := fun d => x3 (ix2 0 d)) (c := fun d => x2 (ix2 d 1)) (s := fun h w => x4 (ix2 h w)) (h := h) (w := w)
      (k := 0) hx2.symm hx3.symm hx1.symm

variable (m : (ℓ : Loc nD τ sig) → Buf (Elt Ideal) ℓ) (ρ : Dev nD → PrngReg)

/-- Before the launch: the features as rows. -/
theorem V_feature_row (c : Dev nD) (b : Fin 16) (d : Fin 64) :
    V m c main_call0_v1 (ix3 b 0 d) = m ((c : Thread nD τ).loc main_arg0) (ix2 b d) := by
  unfold V V0
  after_reads_at

/-- Before the launch: the features as columns. -/
theorem V_feature_col (c : Dev nD) (b : Fin 16) (d : Fin 64) :
    V m c main_call0_v2 (ix3 b d 0) = m ((c : Thread nD τ).loc main_arg0) (ix2 b d) := by
  unfold V V0
  after_reads_at

/-- Before the launch: the coordinates, turned round. -/
theorem V_coords (c : Dev nD) (k : Fin 2) (d : Fin 64) :
    V m c main_call0_v3 (ix2 k d) = m ((c : Thread nD τ).loc main_arg1) (ix2 d k) := by
  unfold V V0
  after_reads_at

/-- Before the launch: the stamp without its channel axis. -/
theorem V_picture (c : Dev nD) (h w : Fin 512) :
    V m c main_call0_v0 (ix2 h w) = m ((c : Thread nD τ).loc main_arg2) (ix3 h w 0) := by
  unfold V V0
  after_reads_at

/-- The image of sample `b`, as the launch finds the arguments on device `c`. -/
abbrev imageAt (c : Dev nD) (b : Fin 16) (h w : Fin 512) (k : Fin 5) : EReal :=
  pixel (fun d => m ((c : Thread nD τ).loc main_arg0) (ix2 b d)) (fun d => m ((c : Thread nD τ).loc main_arg1) (ix2 d 0))
    (fun d => m ((c : Thread nD τ).loc main_arg1) (ix2 d 1)) (fun h w => m ((c : Thread nD τ).loc main_arg2) (ix3 h w 0)) h w k

/-- Where each window's block lies at a grid point. -/
theorem idx0 : ∀ t : Fin cfg0.N, win0_0.index t = ![t.val, 0, 0] := (by decide +kernel : ∀ t : Fin grid0.N, _)
@[inherit_doc idx0] theorem idx1 : ∀ t : Fin cfg0.N, win0_1.index t = ![t.val, 0, 0] := (by decide +kernel : ∀ t : Fin grid0.N, _)
@[inherit_doc idx0] theorem idx2 : ∀ t : Fin cfg0.N, win0_2.index t = ![0, 0] := (by decide +kernel : ∀ t : Fin grid0.N, _)
@[inherit_doc idx0] theorem idx3 : ∀ t : Fin cfg0.N, win0_3.index t = ![0, 0] := (by decide +kernel : ∀ t : Fin grid0.N, _)
@[inherit_doc idx0] theorem idx4 : ∀ t : Fin cfg0.N, win0_4.index t = ![0, 0] := (by decide +kernel : ∀ t : Fin grid0.N, _)
@[inherit_doc idx0] theorem idx5 : ∀ t : Fin cfg0.N, win0_5.index t = ![t.val, 0, 0, 0] := (by decide +kernel : ∀ t : Fin grid0.N, _)

/-- The loaded row of features is the sample's. -/
theorem block_row (c : Dev nD) (t : Fin cfg0.N) (d : Fin 64) :
    iblk m c 0 t (ix3 0 0 d) = m ((c : Thread nD τ).loc main_arg0) (ix2 ⟨t.val, t.isLt⟩ d) := by
  rw [← V_feature_row m]
  blk_simp [iblk]
  refine congrArg _ ?_
  blk_ext [idx0]

/-- The loaded column of features is the sample's. -/
theorem block_col (c : Dev nD) (t : Fin cfg0.N) (d : Fin 64) :
    iblk m c 1 t (ix3 0 d 0) = m ((c : Thread nD τ).loc main_arg0) (ix2 ⟨t.val, t.isLt⟩ d) := by
  rw [← V_feature_col m]
  blk_simp [iblk]
  refine congrArg _ ?_
  blk_ext [idx1]

/-- The loaded coordinates are the argument. -/
theorem block_coords (c : Dev nD) (t : Fin cfg0.N) (d : Fin 64) (k : Fin 2) :
    iblk m c 2 t (ix2 d k) = m ((c : Thread nD τ).loc main_arg1) (ix2 d k) := by
  rw [← V_main_arg1 m]
  blk_simp [iblk]
  refine congrArg _ ?_
  blk_ext [idx2]

/-- The loaded transposed coordinates are the argument's transpose. -/
theorem block_coords_t (c : Dev nD) (t : Fin cfg0.N) (d : Fin 64) (k : Fin 2) :
    iblk m c 3 t (ix2 k d) = m ((c : Thread nD τ).loc main_arg1) (ix2 d k) := by
  rw [← V_coords m]
  blk_simp [iblk]
  refine congrArg _ ?_
  blk_ext [idx3]

/-- The loaded picture is the argument. -/
theorem block_picture (c : Dev nD) (t : Fin cfg0.N) (h w : Fin 512) :
    iblk m c 4 t (ix2 h w) = m ((c : Thread nD τ).loc main_arg2) (ix3 h w 0) := by
  rw [← V_picture m]
  blk_simp [iblk]
  refine congrArg _ ?_
  blk_ext [idx4]

/-- The written array: for each sample, its image with the channel axis ahead of the pixels. -/
theorem array (c : Dev nD) : (dats m 0 c).arrAt 5 cfg0.N = fun y : S16x5x512x512.Idx => imageAt m c (y 0) (y 2) (y 3) (y 1) := by
  refine (dats m 0 c).arrAt_eq_of_covers 5 _ (by decide +kernel) fun t hf y => ?_
  blk_simp
  rw [after0_5]
  refine (block_pixel (grid0.coords t) _ _ _ _ _ (fun d => m ((c : Thread nD τ).loc main_arg0) (ix2 ⟨t.val, t.isLt⟩ d))
    (block_row m c t) (block_col m c t) y).trans ?_
  simp only [block_coords, block_coords_t, block_picture]
  have e : (win0_5.blk t).view.emb y = ix4 ⟨t.val, t.isLt⟩ (y 1) (y 2) (y 3) := by
    blk_ext [idx5]
  rw [e]
  rfl

/-- The kernel's run: the result holds every sample's image and the arguments are kept. -/
theorem run : θ_run defs (onTc (τ := τ) (main (F := Ideal))) ⟨m, fun _ => 0, ρ⟩ fun r => ∀ c : Dev nD,
      r.2.mem ((c : Thread nD τ).loc main_v0) = (fun y : S16x512x512x5.Idx => imageAt m c (y 0) (y 1) (y 2) (y 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from run_main m ρ
  · funext y
    unfold Pipeline.afterTail₀
    after_reads_at
    refine (congrFun (Pipeline.withArrays_arr spec0 (by decide) c (V0 m c) (fun w => (dats m 0 c).arrAt w cfg0.N) (5 : Fin cfg0.W)) _).trans ?_
    rw [array]
    rfl
  · exact W_main_arg0 m (dats m) c
  · exact W_main_arg2 m (dats m) c

end Cert.Array

end
-- ==== Proof.RefLoop.lean ====
/-
  THE REFERENCE'S LOOP OVER THE BARS: one trip at a pixel, and the picture after any number of trips.
-/
module

public import proofs.«01_k».proof.Proof.Image
public import proofs.«01_k».proof.Proof.Gen.ReferenceIdeal.Step
public import Idealize.ShloMosaic.Lib.Pipeline.Value

@[expose] public section

noncomputable section

namespace Cert.RefLoop

open Idealize.ShloMosaic Cert.ReferenceIdeal Cert.ReferenceIdeal.Gen Cert.ReferenceIdeal.Step Cert.Image
open scoped BigOperators

/-- The trip number as a column: it is not negative, so the wrap adds nothing. -/
theorem column_word : ∀ j : Fin 64, (Scalar.select (IntOp.cmpi .slt (BitVec.ofNat 32 j) 0#32)
    (IntOp.addi (BitVec.ofNat 32 j) 64#32) (BitVec.ofNat 32 j)).toInt = (j : ℕ) := by decide

/-- The column of features that trip `j` reads is feature `j`. -/
theorem read_feature (j : Fin 64) (s : State Ideal) (b : Fin 16) : b17 (j : ℕ) s (ix2 b 0) = s.main_v4_0 (ix2 b j) := by
  unfold b17
  pointwise
  refine congrArg s.main_v4_0 ?_
  funext a
  apply Fin.ext
  match a with
  | ⟨0, _⟩ => exact Nat.zero_add _
  | ⟨1, _⟩ =>
    show (min (max (Scalar.select (IntOp.cmpi .slt (BitVec.ofNat 32 j) 0#32)
      (IntOp.addi (BitVec.ofNat 32 j) 64#32) (BitVec.ofNat 32 j)).toInt 0) ((64 - 1 : ℕ) : ℤ)).toNat = (j : ℕ)
    rw [column_word]
    omega

/-- One trip at a pixel: what was drawn, kept outside bar `j`'s columns, and bar `j` drawn on them. -/
theorem trip (j : Fin 64) (s : State Ideal) (b : Fin 16) (h w : Fin 512) :
    b52 (j : ℕ) s (ix3 b h w)
      = s.main_v4_5 (ix3 b h w) * (1 - stands j w) + rises (s.main_v4_0 (ix2 b j)) h * stands j w := by
  pointwise [b52, b51, b50, b49, b48, b47, b46, b45, b44, b43, b42, b41, b40, b39, b38, b37, b36, b35, b34, b33, b32, b31, b30,
    b29, b28, b27, b26, b25, b24, b23, b22, b21, b20, b19, b18, b9, b8, b7, b6, b5, b4, b3, b2, b1, b0, K_main_v0, K_main_v1,
    K_main_v2, read_feature]
  have e : ind _ = stands j w := ind_congr (stands_reference j w)
  have e' : ind _ = rises (s.main_v4_0 (ix2 b j)) h := ind_congr (cmpi_slt_iff ..)
  rw [uitofp_bit, uitofp_bit, e, const_512, ← e']
  rfl

/-- The states the trips pass through. -/
def states {F : FTy → Type} [FloatOps F] (x : (⟨S16x64, .f32⟩ : BufTy).Contents (Elt F)) : ℕ → State F
  | 0 => init x
  | n + 1 => step n (states x n)

/-- The features are carried along unchanged. -/
theorem states_features (x : (⟨S16x64, .f32⟩ : BufTy).Contents (Elt Ideal)) : ∀ n, (states x n).main_v4_0 = x
  | 0 => rfl
  | n + 1 => states_features x n

/-- After `n` trips the picture holds the first `n` bars. -/
theorem states_picture (x : (⟨S16x64, .f32⟩ : BufTy).Contents (Elt Ideal)) (b : Fin 16) (h w : Fin 512) :
    ∀ n, n ≤ 64 → (states x n).main_v4_5 (ix3 b h w)
      = ∑ i : Fin 64, if (i : ℕ) < n then rises (x (ix2 b i)) h * stands i w else 0
  | 0, _ => by
    show K_main_v3 (F := Ideal) (ix3 b h w) = _
    pointwise [K_main_v3, K_main_cst]
    exact (Finset.sum_eq_zero fun i _ => if_neg (Nat.not_lt_zero _)).symm
  | n + 1, hn => by
    show b52 ((⟨n, hn⟩ : Fin 64) : ℕ) (states x n) (ix3 b h w) = _
    rw [trip, states_features, states_picture x b h w n (Nat.le_of_succ_le hn)]
    exact draw (fun d => x (ix2 b d)) h w ⟨n, hn⟩

/-- After all trips it is the bar graph. -/
theorem states_end (x : (⟨S16x64, .f32⟩ : BufTy).Contents (Elt Ideal)) (b : Fin 16) (h w : Fin 512) :
    (states x 64).main_v4_5 (ix3 b h w) = bars (fun d => x (ix2 b d)) h w := by
  rw [states_picture x b h w 64 le_rfl]
  exact Finset.sum_congr rfl fun i _ => if_pos i.isLt

end Cert.RefLoop

end
-- ==== Proof.RefScatter.lean ====
/-
  THE REFERENCE'S SCATTER: each feature is added onto the pixel its words name.
-/
module

public import proofs.«01_k».proof.Proof.Image
public import proofs.«01_k».proof.Proof.Gen.ReferenceIdeal
public import Idealize.ShloMosaic.Lib.ValueIdxCore

@[expose] public section

noncomputable section

namespace Cert.RefScatter

open Idealize.ShloMosaic Cert.ReferenceIdeal Cert.ReferenceIdeal.Gen Cert.Image
open scoped BigOperators

/-- The scatter's dimension numbers. -/
abbrev dims : ScatterDims S16x512x512 S16x64x3 S16x64 := scatter_S16x512x512_S16x64x3_S16x64_n_012_012_2

/-- The start of update `(b, d)` on axis `a` is word `a` of its index vector. -/
theorem start_at (idx : IVec S16x64x3 32) (b : Fin 16) (d : Fin 64) (a : Fin 3) :
    dims.start (ix2 b d) idx a = (idx (ix3 b d a)).toInt := by
  have ha : a ∈ dims.scatterDimsToOperandDims := by revert a; decide
  unfold ScatterDims.start
  rw [dif_pos ha]
  refine congrArg (fun i => (idx i).toInt) ?_
  funext k
  apply Fin.ext
  match a, k with
  | 0, 0 => rfl
  | 0, 1 => rfl
  | 0, 2 => rfl
  | 1, 0 => rfl
  | 1, 1 => rfl
  | 1, 2 => rfl
  | 2, 0 => rfl
  | 2, 1 => rfl
  | 2, 2 => rfl

/-- Every operand axis is inserted: the window adds nothing. -/
theorem window_at (j : S16x64.Idx) (a : Fin 3) : dims.window j a = 0 := by
  have ha : a ∉ dims.sKept := by revert a; decide
  unfold ScatterDims.window
  rw [dif_neg ha]

/-- Update `(b', d)` lands on a pixel exactly when its three words are the pixel's coordinates. -/
theorem lands_iff (idx : IVec S16x64x3 32) (b' : Fin 16) (d : Fin 64) (b : Fin 16) (h w : Fin 512) :
    dims.resultIdx? (ix2 b' d) idx = some (ix3 b h w)
      ↔ (idx (ix3 b' d 0)).toInt = b ∧ (idx (ix3 b' d 1)).toInt = h ∧ (idx (ix3 b' d 2)).toInt = w := by
  have e (a : Fin 3) : dims.start (ix2 b' d) idx a + dims.window (ix2 b' d) a = (idx (ix3 b' d a)).toInt := by
    rw [start_at, window_at]; exact add_zero _
  unfold ScatterDims.resultIdx?
  constructor
  · intro hs
    split at hs
    · next hin =>
      have hv (a : Fin 3) : (idx (ix3 b' d a)).toInt = ((ix3 b h w : S16x512x512.Idx) a : ℕ) := by
        have h1 := congrArg (fun i : S16x512x512.Idx => (i a : ℕ)) (Option.some.inj hs)
        have h2 := (hin a).1
        simp only [e] at h1 h2
        omega
      exact ⟨hv 0, hv 1, hv 2⟩
    · exact absurd hs (by simp)
  · rintro ⟨h0, h1, h2⟩
    have hv (a : Fin 3) : (idx (ix3 b' d a)).toInt = ((ix3 b h w : S16x512x512.Idx) a : ℕ) := by
      match a with
      | 0 => exact h0
      | 1 => exact h1
      | 2 => exact h2
    rw [dif_pos (fun a => by
      rw [e a, hv a]
      exact ⟨Int.natCast_nonneg _, Int.ofNat_lt.2 ((ix3 b h w : S16x512x512.Idx) a).isLt⟩)]
    refine congrArg some (funext fun a => Fin.ext ?_)
    show (dims.start (ix2 b' d) idx a + dims.window (ix2 b' d) a).toNat = _
    rw [e a, hv a]
    exact Int.toNat_natCast _

/-- A word's signed value is a pixel's coordinate exactly when the word is the coordinate's word. -/
theorem toInt_eq_iff (a : BitVec 32) (h : Fin 512) : a.toInt = (h : ℕ) ↔ a = BitVec.ofNat 32 h := by
  have e : (BitVec.ofNat 32 (h : ℕ)).toInt = (h : ℕ) := toInt_word (h : ℤ) (by omega) (by omega)
  rw [← e]
  exact ⟨BitVec.eq_of_toInt_eq, congrArg _⟩

/-- The scatter onto a zero array, at a pixel: the sum of the features whose words name the pixel. -/
theorem scatter_at (z : FVec Ideal S16x512x512 .f32) (idx : IVec S16x64x3 32) (x : FVec Ideal S16x64 .f32)
    (r c : Fin 64 → BitVec 32) (b : Fin 16) (h w : Fin 512) (hz : z (ix3 b h w) = (0 : EReal))
    (hb : ∀ b' d, (idx (ix3 b' d 0)).toInt = (b' : ℕ)) (hr : ∀ b' d, idx (ix3 b' d 1) = r d)
    (hc : ∀ b' d, idx (ix3 b' d 2) = c d) :
    Host.scatterAdd dims z idx x (ix3 b h w) = dots (fun d => x (ix2 b d)) r c h w := by
  have lands (b' : Fin 16) (d : Fin 64) : dims.resultIdx? (ix2 b' d) idx = some (ix3 b h w)
      ↔ b' = b ∧ r d = BitVec.ofNat 32 h ∧ c d = BitVec.ofNat 32 w := by
    rw [lands_iff, hb, hr, hc, toInt_eq_iff, toInt_eq_iff, Int.ofNat_inj, Fin.val_inj]
  show (z (ix3 b h w) : EReal) + ∑ j ∈ Finset.univ.filter (fun j => dims.resultIdx? j idx = some (ix3 b h w)), (x j : EReal) = _
  rw [hz, zero_add, Finset.sum_filter, ValueIdx.sum_idx2]
  rw [Finset.sum_eq_single b]
  · unfold dots
    refine Finset.sum_congr rfl fun d _ => ?_
    by_cases hp : r d = BitVec.ofNat 32 h ∧ c d = BitVec.ofNat 32 w
    · rw [ind_true hp, one_mul]
      exact if_pos ((lands b d).2 ⟨rfl, hp⟩)
    · rw [ind_false hp, zero_mul]
      exact if_neg fun hl => hp ((lands b d).1 hl).2
  · intro b' _ hne
    exact Finset.sum_eq_zero fun d _ => if_neg fun hl => hne ((lands b' d).1 hl).1
  · intro hn
    exact absurd (Finset.mem_univ b) hn

end Cert.RefScatter

end
-- ==== Proof.RefImage.lean ====
/-
  THE REFERENCE'S RESULT, entry by entry: the five channels of `Image.lean`'s picture, when no coordinate is negative.
-/
module

public import proofs.«01_k».proof.Proof.RefLoop
public import proofs.«01_k».proof.Proof.RefScatter
public import Idealize.ShloMosaic.Lib.Pipeline.ValueKit

@[expose] public section

noncomputable section

namespace Cert.RefImage

open Idealize.ShloMosaic Cert.ReferenceIdeal Cert.ReferenceIdeal.Gen Cert.ReferenceIdeal.Step Cert.Image
open scoped BigOperators

/-- A sample's number as a start index: it is not negative, so the wrap adds nothing. -/
theorem sample_word : ∀ b : Fin 16, (Scalar.select (IntOp.cmpi .slt (BitVec.ofNat 32 b) 0#32)
    (IntOp.addi (BitVec.ofNat 32 b) 16#32) (BitVec.ofNat 32 b)).toInt = (b : ℕ) := by decide

/-- A coordinate that is not negative is its own start index. -/
theorem coordinate_word (a : BitVec 32) (h : (0#32 : BitVec 32).sle a = true) :
    Scalar.select (IntOp.cmpi .slt a 0#32) (IntOp.addi a 512#32) a = a := by
  have hs : a.slt 0#32 = false := by
    simp only [BitVec.sle, decide_eq_true_eq] at h
    simp only [BitVec.slt, decide_eq_false_iff_not]
    omega
  show (if IntOp.cmpi .slt a 0#32 = 1#1 then _ else _) = _
  rw [if_neg]
  rw [cmpi_slt_iff, hs]; decide

/-- The picture of a batch: the channels of each sample's pixels, of the features `x`, the coordinates `co` and the stamp
    `st`. -/
abbrev image (x : (⟨S16x64, .f32⟩ : BufTy).Contents (Elt Ideal)) (co : (⟨S64x2, .i32⟩ : BufTy).Contents (Elt Ideal))
    (st : (⟨S512x512x1, .f32⟩ : BufTy).Contents (Elt Ideal)) (b : Fin 16) (h w : Fin 512) : Fin 5 → EReal :=
  pixel (fun d => x (ix2 b d)) (fun d => co (ix2 d 0)) (fun d => co (ix2 d 1)) (fun h w => st (ix3 h w 0)) h w

/-- An entry of channel `k` read at the index of that channel's own array. -/
theorem at_channel (f : Fin 16 → Fin 512 → Fin 512 → Fin 5 → EReal) (i : S16x512x512x5.Idx) (j : S16x512x512x1.Idx) (k : Fin 5)
    (h : (i 3 : ℕ) = k) (h0 : (j 0 : ℕ) = i 0) (h1 : (j 1 : ℕ) = i 1) (h2 : (j 2 : ℕ) = i 2) :
    f (j 0) (j 1) (j 2) k = f (i 0) (i 1) (i 2) (i 3) := by
  have e0 : (j 0 : Fin 16) = i 0 := Fin.ext h0
  have e1 : (j 1 : Fin 512) = i 1 := Fin.ext h1
  have e2 : (j 2 : Fin 512) = i 2 := Fin.ext h2
  have e3 : k = i 3 := Fin.ext h.symm
  exact (congrArg (fun a => f a (j 1) (j 2) k) e0).trans ((congrArg (fun a => f (i 0) a (j 2) k) e1).trans
    ((congrArg (fun a => f (i 0) (i 1) a k) e2).trans (congrArg (f (i 0) (i 1) (i 2)) e3)))

set_option maxHeartbeats 2000000 in  -- one case per channel, each a deep term
/-- The reference's result at an index is the picture's entry there. -/
theorem result (x : (⟨S16x64, .f32⟩ : BufTy).Contents (Elt Ideal)) (co : (⟨S64x2, .i32⟩ : BufTy).Contents (Elt Ideal))
    (st : (⟨S512x512x1, .f32⟩ : BufTy).Contents (Elt Ideal)) (hco : ∀ d k, (0#32 : BitVec 32).sle (co (ix2 d k)) = true)
    (i : S16x512x512x5.Idx) : R_main_v66 (RefLoop.states x 64) x co st i = image x co st (i 0) (i 1) (i 2) (i 3) := by
  unfold R_main_v66
  concat_tiles i h
  all_goals rename_i i0
  case piece0 =>
    pointwise
    exact at_channel (image x co st) i0 i 0 h h0 h1 h2
  case piece1 =>
    pointwise
    refine Eq.trans ?_ (at_channel (image x co st) i0 i 1 h h0 h1 h2)
    refine RefScatter.scatter_at _ _ x (fun d => co (ix2 d 0)) (fun d => co (ix2 d 1)) (i 0) (i 1) (i 2) ?_ ?_ ?_ ?_
    · pointwise
    · intro b d
      pointwise
      exact sample_word b
    · intro b d
      pointwise
      exact coordinate_word _ (hco d 0)
    · intro b d
      pointwise
      exact coordinate_word _ (hco d 1)
  case piece2 =>
    pointwise
    exact at_channel (image x co st) i0 i 2 h h0 h1 h2
  case piece3 =>
    pointwise
    rw [const_top, const_bot]
    exact at_channel (image x co st) i0 i 3 h h0 h1 h2
  case piece4 =>
    pointwise
    exact (RefLoop.states_end x (i 0) (i 1) (i 2)).trans (at_channel (image x co st) i0 i 4 h h0 h1 h2)

end Cert.RefImage

end
-- ==== Proof.RefOps.lean ====
/-
  THE REFERENCE'S OPERATIONS: @main as a line of operations, a loop of 64 trips, and a line of operations after it; a trip as
  a line of operations. Each line touches buffers of the one core only and allocates none, which is what running the loop asks.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 2048

noncomputable section

namespace Cert.RefOps

open Idealize.ShloMosaic Idealize.ShloMosaic.TcCoe Idealize.SL Idealize.SL.Sem Idealize.ShloMosaic.StableHlo
open Cert.ReferenceIdeal Cert.ReferenceIdeal.Gen

variable {F : FTy → Type} [FloatOps F]

/-- The operations before the loop: the row and column numbers, a blank picture, and the carried values. -/
abbrev preOps : List (HloOp τ sig (Elt F)) :=
  [ nullary main_v0 (iotaInDim S512 32 0),
    nullary main_v1 (iotaInDim S512 32 0),
    unary main_v1 main_v2 (broadcastInDim S1x512x1 ![1] bcast_S512_S1x512x1_1 : (⟨S512, .i32⟩ : BufTy).Contents (Elt F) → (⟨S1x512x1, .i32⟩ : BufTy).Contents (Elt F)),
    nullary main_cst (constant S_ .f32 0x00000000#32),
    unary main_cst main_v3 (broadcastInDim S16x512x512 ![] bcast_S_S16x512x512 : (⟨S_, .f32⟩ : BufTy).Contents (Elt F) → (⟨S16x512x512, .f32⟩ : BufTy).Contents (Elt F)),
    nullary main_c (constantI S_ 32 0#32),
    nullary main_c_0 (constantI S_ 32 0#32),
    unary main_arg0 main_v4_0 id,
    unary main_v2 main_v4_1 id,
    unary main_v0 main_v4_2 id,
    unary main_c_0 main_v4_3 id,
    unary main_c main_v4_4 id,
    unary main_v3 main_v4_5 id ]

/-- A trip's operations up to the rounding: the bar's first and last column, and the sample's feature times 512. -/
abbrev tripOps0 : List (HloOp τ sig (Elt F)) :=
  [ nullary main_while0b_c_15 (constantI S_ 32 1#32),
    binary main_v4_4 main_while0b_c_15 main_while0b_v67 (addi : (⟨S_, .i32⟩ : BufTy).Contents (Elt F) → (⟨S_, .i32⟩ : BufTy).Contents (Elt F) → (⟨S_, .i32⟩ : BufTy).Contents (Elt F)),
    nullary main_while0b_c_16 (constantI S_ 32 7#32),
    binary main_v4_4 main_while0b_c_16 main_while0b_v68 (muli : (⟨S_, .i32⟩ : BufTy).Contents (Elt F) → (⟨S_, .i32⟩ : BufTy).Contents (Elt F) → (⟨S_, .i32⟩ : BufTy).Contents (Elt F)),
    nullary main_while0b_c_17 (constantI S_ 32 29#32),
    binary main_while0b_c_17 main_while0b_v68 main_while0b_v69 (addi : (⟨S_, .i32⟩ : BufTy).Contents (Elt F) → (⟨S_, .i32⟩ : BufTy).Contents (Elt F) → (⟨S_, .i32⟩ : BufTy).Contents (Elt F)),
    nullary main_while0b_c_18 (constantI S_ 32 5#32),
    binary main_while0b_v69 main_while0b_c_18 main_while0b_v70 (addi : (⟨S_, .i32⟩ : BufTy).Contents (Elt F) → (⟨S_, .i32⟩ : BufTy).Contents (Elt F) → (⟨S_, .i32⟩ : BufTy).Contents (Elt F)),
    nullary main_while0b_c_19 (constantI S_ 32 2#32),
    binary main_while0b_v70 main_while0b_c_19 main_while0b_v71 (addi : (⟨S_, .i32⟩ : BufTy).Contents (Elt F) → (⟨S_, .i32⟩ : BufTy).Contents (Elt F) → (⟨S_, .i32⟩ : BufTy).Contents (Elt F)),
    nullary main_while0b_c_20 (constantI S_ 32 0#32),
    binary main_v4_4 main_while0b_c_20 main_while0b_v72 (cmpi .slt : (⟨S_, .i32⟩ : BufTy).Contents (Elt F) → (⟨S_, .i32⟩ : BufTy).Contents (Elt F) → (⟨S_, .i1⟩ : BufTy).Contents (Elt F)),
    unary main_v4_4 main_while0b_v73 (id : (⟨S_, .i32⟩ : BufTy).Contents (Elt F) → (⟨S_, .i32⟩ : BufTy).Contents (Elt F)),
    nullary main_while0b_c_21 (constantI S_ 32 64#32),
    binary main_while0b_v73 main_while0b_c_21 main_while0b_v74 (addi : (⟨S_, .i32⟩ : BufTy).Contents (Elt F) → (⟨S_, .i32⟩ : BufTy).Contents (Elt F) → (⟨S_, .i32⟩ : BufTy).Contents (Elt F)),
    ternary main_while0b_v72 main_while0b_v74 main_v4_4 main_while0b_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_22 (constantI S_ 32 0#32),
    unaryIndexed main_v4_0 ![main_while0b_c_22, main_while0b_v75] ⟨S_, .i32⟩ main_while0b_v76 ((fun x i => Host.dynamicSlice S16x1 x (fun k => (i k (Shape.Idx.first h_S_)).toInt) sliceFits_S16x64_S16x1) : (⟨S16x64, .f32⟩ : BufTy).Contents (Elt F) → (Fin 2 → (⟨S_, .i32⟩ : BufTy).Contents (Elt F)) → (⟨S16x1, .f32⟩ : BufTy).Contents (Elt F)),
    nullary main_while0b_cst_23 (constant S_ .f32 0x44000000#32),
    unary main_while0b_cst_23 main_while0b_v77 (broadcastInDim S16x1 ![] bcast_S_S16x1 : (⟨S_, .f32⟩ : BufTy).Contents (Elt F) → (⟨S16x1, .f32⟩ : BufTy).Contents (Elt F)),
    binary main_while0b_v76 main_while0b_v77 main_while0b_v78 (mulf : (⟨S16x1, .f32⟩ : BufTy).Contents (Elt F) → (⟨S16x1, .f32⟩ : BufTy).Contents (Elt F) → (⟨S16x1, .f32⟩ : BufTy).Contents (Elt F)) ]

/-- The rounding to the nearest integer, half to even. -/
abbrev tripOps1 : List (HloOp τ sig (Elt F)) :=
  [ TRef.unary (.of main_while0b_v78 : TRef sig ⟨S16x1, .f32⟩) (.of main_while0b_v79 : TRef sig ⟨S16x1, .f32⟩) Host.roundeven ]

/-- The conversion to an integer, and the two bounds. -/
abbrev tripOps2 : List (HloOp τ sig (Elt F)) :=
  [ unary main_while0b_v79 main_while0b_v80 (fptosi 32 : (⟨S16x1, .f32⟩ : BufTy).Contents (Elt F) → (⟨S16x1, .i32⟩ : BufTy).Contents (Elt F)),
    nullary main_while0b_c_24 (constantI S_ 32 0#32),
    nullary main_while0b_c_25 (constantI S_ 32 512#32) ]

/-- The clipping between the bounds. -/
abbrev tripOps3 : List (HloOp τ sig (Elt F)) :=
  [ TRef.unary (.of main_while0b_c_24 : TRef sig ⟨S_, .i32⟩) (.of main_while0b_call1_v0 : TRef sig ⟨S_, .i32⟩) id,
    TRef.unary (.of main_while0b_call1_v0 : TRef sig ⟨S_, .i32⟩) (.of main_while0b_call1_v1 : TRef sig ⟨S16x1, .i32⟩) (broadcastInDim S16x1 ![] bcast_S_S16x1),
    TRef.binary (.of main_while0b_call1_v1 : TRef sig ⟨S16x1, .i32⟩) (.of main_while0b_v80 : TRef sig ⟨S16x1, .i32⟩) (.of main_while0b_call1_v2 : TRef sig ⟨S16x1, .i32⟩) maxsi,
    TRef.unary (.of main_while0b_c_25 : TRef sig ⟨S_, .i32⟩) (.of main_while0b_call1_v3 : TRef sig ⟨S_, .i32⟩) id,
    TRef.unary (.of main_while0b_call1_v3 : TRef sig ⟨S_, .i32⟩) (.of main_while0b_call1_v4 : TRef sig ⟨S16x1, .i32⟩) (broadcastInDim S16x1 ![] bcast_S_S16x1),
    TRef.binary (.of main_while0b_call1_v4 : TRef sig ⟨S16x1, .i32⟩) (.of main_while0b_call1_v2 : TRef sig ⟨S16x1, .i32⟩) (.of main_while0b_v81 : TRef sig ⟨S16x1, .i32⟩) minsi ]

/-- The bar drawn over the picture, and the carried values stepped. -/
abbrev tripOps4 : List (HloOp τ sig (Elt F)) :=
  [ unary main_while0b_v81 main_while0b_v82 (broadcastInDim S16x1x1 ![0, 2] bcast_S16x1_S16x1x1_0_2 : (⟨S16x1, .i32⟩ : BufTy).Contents (Elt F) → (⟨S16x1x1, .i32⟩ : BufTy).Contents (Elt F)),
    unary main_v4_1 main_while0b_v83 (broadcastInDim S16x512x1 ![0, 1, 2] bcast_S1x512x1_S16x512x1_0_1_2 : (⟨S1x512x1, .i32⟩ : BufTy).Contents (Elt F) → (⟨S16x512x1, .i32⟩ : BufTy).Contents (Elt F)),
    unary main_while0b_v82 main_while0b_v84 (broadcastInDim S16x512x1 ![0, 1, 2] bcast_S16x1x1_S16x512x1_0_1_2 : (⟨S16x1x1, .i32⟩ : BufTy).Contents (Elt F) → (⟨S16x512x1, .i32⟩ : BufTy).Contents (Elt F)),
    binary main_while0b_v83 main_while0b_v84 main_while0b_v85 (cmpi .slt : (⟨S16x512x1, .i32⟩ : BufTy).Contents (Elt F) → (⟨S16x512x1, .i32⟩ : BufTy).Contents (Elt F) → (⟨S16x512x1, .i1⟩ : BufTy).Contents (Elt F)),
    unary main_while0b_v85 main_while0b_v86 (uitofp .f32 : (⟨S16x512x1, .i1⟩ : BufTy).Contents (Elt F) → (⟨S16x512x1, .f32⟩ : BufTy).Contents (Elt F)),
    unary main_while0b_v70 main_while0b_v87 (id : (⟨S_, .i32⟩ : BufTy).Contents (Elt F) → (⟨S_, .i32⟩ : BufTy).Contents (Elt F)),
    unary main_while0b_v87 main_while0b_v88 (broadcastInDim S512 ![] bcast_S_S512 : (⟨S_, .i32⟩ : BufTy).Contents (Elt F) → (⟨S512, .i32⟩ : BufTy).Contents (Elt F)),
    binary main_v4_2 main_while0b_v88 main_while0b_v89 (cmpi .sge : (⟨S512, .i32⟩ : BufTy).Contents (Elt F) → (⟨S512, .i32⟩ : BufTy).Contents (Elt F) → (⟨S512, .i1⟩ : BufTy).Contents (Elt F)),
    unary main_while0b_v71 main_while0b_v90 (id : (⟨S_, .i32⟩ : BufTy).Contents (Elt F) → (⟨S_, .i32⟩ : BufTy).Contents (Elt F)),
    unary main_while0b_v90 main_while0b_v91 (broadcastInDim S512 ![] bcast_S_S512 : (⟨S_, .i32⟩ : BufTy).Contents (Elt F) → (⟨S512, .i32⟩ : BufTy).Contents (Elt F)),
    binary main_v4_2 main_while0b_v91 main_while0b_v92 (cmpi .slt : (⟨S512, .i32⟩ : BufTy).Contents (Elt F) → (⟨S512, .i32⟩ : BufTy).Contents (Elt F) → (⟨S512, .i1⟩ : BufTy).Contents (Elt F)),
    binary main_while0b_v89 main_while0b_v92 main_while0b_v93 (andi : (⟨S512, .i1⟩ : BufTy).Contents (Elt F) → (⟨S512, .i1⟩ : BufTy).Contents (Elt F) → (⟨S512, .i1⟩ : BufTy).Contents (Elt F)),
    unary main_while0b_v93 main_while0b_v94 (uitofp .f32 : (⟨S512, .i1⟩ : BufTy).Contents (Elt F) → (⟨S512, .f32⟩ : BufTy).Contents (Elt F)),
    unary main_while0b_v94 main_while0b_v95 (broadcastInDim S1x1x512 ![2] bcast_S512_S1x1x512_2 : (⟨S512, .f32⟩ : BufTy).Contents (Elt F) → (⟨S1x1x512, .f32⟩ : BufTy).Contents (Elt F)),
    unary main_while0b_v95 main_while0b_v96 (broadcastInDim S16x512x512 ![0, 1, 2] bcast_S1x1x512_S16x512x512_0_1_2 : (⟨S1x1x512, .f32⟩ : BufTy).Contents (Elt F) → (⟨S16x512x512, .f32⟩ : BufTy).Contents (Elt F)),
    nullary main_while0b_cst_26 (constant S_ .f32 0x3F800000#32),
    unary main_while0b_cst_26 main_while0b_v97 (broadcastInDim S16x512x512 ![] bcast_S_S16x512x512 : (⟨S_, .f32⟩ : BufTy).Contents (Elt F) → (⟨S16x512x512, .f32⟩ : BufTy).Contents (Elt F)),
    binary main_while0b_v97 main_while0b_v96 main_while0b_v98 (subf : (⟨S16x512x512, .f32⟩ : BufTy).Contents (Elt F) → (⟨S16x512x512, .f32⟩ : BufTy).Contents (Elt F) → (⟨S16x512x512, .f32⟩ : BufTy).Contents (Elt F)),
    binary main_v4_5 main_while0b_v98 main_while0b_v99 (mulf : (⟨S16x512x512, .f32⟩ : BufTy).Contents (Elt F) → (⟨S16x512x512, .f32⟩ : BufTy).Contents (Elt F) → (⟨S16x512x512, .f32⟩ : BufTy).Contents (Elt F)),
    unary main_while0b_v86 main_while0b_v100 (broadcastInDim S16x512x512 ![0, 1, 2] bcast_S16x512x1_S16x512x512_0_1_2 : (⟨S16x512x1, .f32⟩ : BufTy).Contents (Elt F) → (⟨S16x512x512, .f32⟩ : BufTy).Contents (Elt F)),
    binary main_while0b_v100 main_while0b_v96 main_while0b_v101 (mulf : (⟨S16x512x512, .f32⟩ : BufTy).Contents (Elt F) → (⟨S16x512x512, .f32⟩ : BufTy).Contents (Elt F) → (⟨S16x512x512, .f32⟩ : BufTy).Contents (Elt F)),
    binary main_while0b_v99 main_while0b_v101 main_while0b_v102 (addf : (⟨S16x512x512, .f32⟩ : BufTy).Contents (Elt F) → (⟨S16x512x512, .f32⟩ : BufTy).Contents (Elt F) → (⟨S16x512x512, .f32⟩ : BufTy).Contents (Elt F)),
    nullary main_while0b_c_27 (constantI S_ 32 1#32),
    binary main_v4_3 main_while0b_c_27 main_while0b_v103 (addi : (⟨S_, .i32⟩ : BufTy).Contents (Elt F) → (⟨S_, .i32⟩ : BufTy).Contents (Elt F) → (⟨S_, .i32⟩ : BufTy).Contents (Elt F)),
    unary main_while0b_v103 main_v4_3 id,
    unary main_while0b_v67 main_v4_4 id,
    unary main_while0b_v102 main_v4_5 id ]

/-- After the loop, first part: the dots scattered at the coordinates, the repeated features, and their pairwise differences'
    two sides. -/
abbrev postOps0 : List (HloOp τ sig (Elt F)) :=
  ( nullary main_cst_1 (constant S_ .f32 0x00000000#32)
  :: unary main_cst_1 main_v5 (broadcastInDim S16x512x512 ![] bcast_S_S16x512x512 : (⟨S_, .f32⟩ : BufTy).Contents (Elt F) → (⟨S16x512x512, .f32⟩ : BufTy).Contents (Elt F))
  :: nullary main_v6 (iotaInDim S16 32 0)
  :: unary main_v6 main_v7 (broadcastInDim S16x1 ![0] bcast_S16_S16x1_0 : (⟨S16, .i32⟩ : BufTy).Contents (Elt F) → (⟨S16x1, .i32⟩ : BufTy).Contents (Elt F))
  :: unary main_arg1 main_v8 ((extractStridedSlice S64x1 ![0, 0] · slices_S64x2_S64x1_0_0) : (⟨S64x2, .i32⟩ : BufTy).Contents (Elt F) → (⟨S64x1, .i32⟩ : BufTy).Contents (Elt F))
  :: reshape main_v8 main_v9 (rfl : (.i32 : EltTy) = .i32) shapeCasts_S64x1_S64
  :: unary main_v9 main_v10 (broadcastInDim S1x64 ![1] bcast_S64_S1x64_1 : (⟨S64, .i32⟩ : BufTy).Contents (Elt F) → (⟨S1x64, .i32⟩ : BufTy).Contents (Elt F))
  :: unary main_arg1 main_v11 ((extractStridedSlice S64x1 ![0, 1] · slices_S64x2_S64x1_0_1) : (⟨S64x2, .i32⟩ : BufTy).Contents (Elt F) → (⟨S64x1, .i32⟩ : BufTy).Contents (Elt F))
  :: reshape main_v11 main_v12 (rfl : (.i32 : EltTy) = .i32) shapeCasts_S64x1_S64
  :: unary main_v12 main_v13 (broadcastInDim S1x64 ![1] bcast_S64_S1x64_1 : (⟨S64, .i32⟩ : BufTy).Contents (Elt F) → (⟨S1x64, .i32⟩ : BufTy).Contents (Elt F))
  :: nullary main_c_2 (constantI S_ 32 0#32)
  :: unary main_c_2 main_v14 (broadcastInDim S16x1 ![] bcast_S_S16x1 : (⟨S_, .i32⟩ : BufTy).Contents (Elt F) → (⟨S16x1, .i32⟩ : BufTy).Contents (Elt F))
  :: binary main_v7 main_v14 main_v15 (cmpi .slt : (⟨S16x1, .i32⟩ : BufTy).Contents (Elt F) → (⟨S16x1, .i32⟩ : BufTy).Contents (Elt F) → (⟨S16x1, .i1⟩ : BufTy).Contents (Elt F))
  :: nullary main_c_3 (constantI S_ 32 16#32)
  :: unary main_c_3 main_v16 (broadcastInDim S16x1 ![] bcast_S_S16x1 : (⟨S_, .i32⟩ : BufTy).Contents (Elt F) → (⟨S16x1, .i32⟩ : BufTy).Contents (Elt F))
  :: binary main_v7 main_v16 main_v17 (addi : (⟨S16x1, .i32⟩ : BufTy).Contents (Elt F) → (⟨S16x1, .i32⟩ : BufTy).Contents (Elt F) → (⟨S16x1, .i32⟩ : BufTy).Contents (Elt F))
  :: ternary main_v15 main_v17 main_v7 main_v18 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F))
  :: nullary main_c_4 (constantI S_ 32 0#32)
  :: unary main_c_4 main_v19 (broadcastInDim S1x64 ![] bcast_S_S1x64 : (⟨S_, .i32⟩ : BufTy).Contents (Elt F) → (⟨S1x64, .i32⟩ : BufTy).Contents (Elt F))
  :: binary main_v10 main_v19 main_v20 (cmpi .slt : (⟨S1x64, .i32⟩ : BufTy).Contents (Elt F) → (⟨S1x64, .i32⟩ : BufTy).Contents (Elt F) → (⟨S1x64, .i1⟩ : BufTy).Contents (Elt F))
  :: nullary main_c_5 (constantI S_ 32 512#32)
  :: unary main_c_5 main_v21 (broadcastInDim S1x64 ![] bcast_S_S1x64 : (⟨S_, .i32⟩ : BufTy).Contents (Elt F) → (⟨S1x64, .i32⟩ : BufTy).Contents (Elt F))
  :: binary main_v10 main_v21 main_v22 (addi : (⟨S1x64, .i32⟩ : BufTy).Contents (Elt F) → (⟨S1x64, .i32⟩ : BufTy).Contents (Elt F) → (⟨S1x64, .i32⟩ : BufTy).Contents (Elt F))
  :: ternary main_v20 main_v22 main_v10 main_v23 (select : (⟨S1x64, .i1⟩ : BufTy).Contents (Elt F) → (⟨S1x64, .i32⟩ : BufTy).Contents (Elt F) → (⟨S1x64, .i32⟩ : BufTy).Contents (Elt F) → (⟨S1x64, .i32⟩ : BufTy).Contents (Elt F))
  :: nullary main_c_6 (constantI S_ 32 0#32)
  :: unary main_c_6 main_v24 (broadcastInDim S1x64 ![] bcast_S_S1x64 : (⟨S_, .i32⟩ : BufTy).Contents (Elt F) → (⟨S1x64, .i32⟩ : BufTy).Contents (Elt F))
  :: binary main_v13 main_v24 main_v25 (cmpi .slt : (⟨S1x64, .i32⟩ : BufTy).Contents (Elt F) → (⟨S1x64, .i32⟩ : BufTy).Contents (Elt F) → (⟨S1x64, .i1⟩ : BufTy).Contents (Elt F))
  :: nullary main_c_7 (constantI S_ 32 512#32)
  :: unary main_c_7 main_v26 (broadcastInDim S1x64 ![] bcast_S_S1x64 : (⟨S_, .i32⟩ : BufTy).Contents (Elt F) → (⟨S1x64, .i32⟩ : BufTy).Contents (Elt F))
  :: binary main_v13 main_v26 main_v27 (addi : (⟨S1x64, .i32⟩ : BufTy).Contents (Elt F) → (⟨S1x64, .i32⟩ : BufTy).Contents (Elt F) → (⟨S1x64, .i32⟩ : BufTy).Contents (Elt F))
  :: ternary main_v25 main_v27 main_v13 main_v28 (select : (⟨S1x64, .i1⟩ : BufTy).Contents (Elt F) → (⟨S1x64, .i32⟩ : BufTy).Contents (Elt F) → (⟨S1x64, .i32⟩ : BufTy).Contents (Elt F) → (⟨S1x64, .i32⟩ : BufTy).Contents (Elt F))
  :: unary main_v18 main_v29 (broadcastInDim S16x64 ![0, 1] bcast_S16x1_S16x64_0_1 : (⟨S16x1, .i32⟩ : BufTy).Contents (Elt F) → (⟨S16x64, .i32⟩ : BufTy).Contents (Elt F))
  :: unary main_v23 main_v30 (broadcastInDim S16x64 ![0, 1] bcast_S1x64_S16x64_0_1 : (⟨S1x64, .i32⟩ : BufTy).Contents (Elt F) → (⟨S16x64, .i32⟩ : BufTy).Contents (Elt F))
  :: unary main_v28 main_v31 (broadcastInDim S16x64 ![0, 1] bcast_S1x64_S16x64_0_1 : (⟨S1x64, .i32⟩ : BufTy).Contents (Elt F) → (⟨S16x64, .i32⟩ : BufTy).Contents (Elt F))
  :: unary main_v29 main_v32 (broadcastInDim S16x64x1 ![0, 1] bcast_S16x64_S16x64x1_0_1 : (⟨S16x64, .i32⟩ : BufTy).Contents (Elt F) → (⟨S16x64x1, .i32⟩ : BufTy).Contents (Elt F))
  :: unary main_v30 main_v33 (broadcastInDim S16x64x1 ![0, 1] bcast_S16x64_S16x64x1_0_1 : (⟨S16x64, .i32⟩ : BufTy).Contents (Elt F) → (⟨S16x64x1, .i32⟩ : BufTy).Contents (Elt F))
  :: unary main_v31 main_v34 (broadcastInDim S16x64x1 ![0, 1] bcast_S16x64_S16x64x1_0_1 : (⟨S16x64, .i32⟩ : BufTy).Contents (Elt F) → (⟨S16x64x1, .i32⟩ : BufTy).Contents (Elt F))
  :: nary ![main_v32, main_v33, main_v34] main_v35 (fun u => (concatenate S16x64x3 2 [⟨S16x64x1, (u 0 : (⟨S16x64x1, .i32⟩ : BufTy).Contents (Elt F))⟩, ⟨S16x64x1, (u 1 : (⟨S16x64x1, .i32⟩ : BufTy).Contents (Elt F))⟩, ⟨S16x64x1, (u 2 : (⟨S16x64x1, .i32⟩ : BufTy).Contents (Elt F))⟩] concatenates_S16x64x1_S16x64x1_S16x64x1_S16x64x3_d2 : (⟨S16x64x3, .i32⟩ : BufTy).Contents (Elt F)))
  :: ternary main_v5 main_v35 main_arg0 main_v36 ((fun x i u => Host.scatterAdd scatter_S16x512x512_S16x64x3_S16x64_n_012_012_2 x i u) : (⟨S16x512x512, .f32⟩ : BufTy).Contents (Elt F) → (⟨S16x64x3, .i32⟩ : BufTy).Contents (Elt F) → (⟨S16x64, .f32⟩ : BufTy).Contents (Elt F) → (⟨S16x512x512, .f32⟩ : BufTy).Contents (Elt F))
  :: unary main_arg0 main_v37 (broadcastInDim S16x64x8 ![0, 1] bcast_S16x64_S16x64x8_0_1 : (⟨S16x64, .f32⟩ : BufTy).Contents (Elt F) → (⟨S16x64x8, .f32⟩ : BufTy).Contents (Elt F))
  :: reshape main_v37 main_v38 (rfl : (.f32 : EltTy) = .f32) shapeCasts_S16x64x8_S16x512
  :: unary main_v38 main_v39 (broadcastInDim S16x512x1 ![0, 1] bcast_S16x512_S16x512x1_0_1 : (⟨S16x512, .f32⟩ : BufTy).Contents (Elt F) → (⟨S16x512x1, .f32⟩ : BufTy).Contents (Elt F))
  :: unary main_v39 main_v40 (broadcastInDim S16x512x512 ![0, 1, 2] bcast_S16x512x1_S16x512x512_0_1_2 : (⟨S16x512x1, .f32⟩ : BufTy).Contents (Elt F) → (⟨S16x512x512, .f32⟩ : BufTy).Contents (Elt F))
  :: unary main_arg0 main_v41 (broadcastInDim S16x64x1 ![0, 1] bcast_S16x64_S16x64x1_0_1 : (⟨S16x64, .f32⟩ : BufTy).Contents (Elt F) → (⟨S16x64x1, .f32⟩ : BufTy).Contents (Elt F))
  :: unary main_arg0 main_v42 (broadcastInDim S16x1x64 ![0, 2] bcast_S16x64_S16x1x64_0_2 : (⟨S16x64, .f32⟩ : BufTy).Contents (Elt F) → (⟨S16x1x64, .f32⟩ : BufTy).Contents (Elt F))
  :: unary main_v41 main_v43 (broadcastInDim S16x64x64 ![0, 1, 2] bcast_S16x64x1_S16x64x64_0_1_2 : (⟨S16x64x1, .f32⟩ : BufTy).Contents (Elt F) → (⟨S16x64x64, .f32⟩ : BufTy).Contents (Elt F))
  :: [] )

/-- After the loop, second part: the scaled absolute differences, each enlarged to a tile, and the five channels joined. -/
abbrev postOps1 : List (HloOp τ sig (Elt F)) :=
  [ unary main_v42 main_v44 (broadcastInDim S16x64x64 ![0, 1, 2] bcast_S16x1x64_S16x64x64_0_1_2 : (⟨S16x1x64, .f32⟩ : BufTy).Contents (Elt F) → (⟨S16x64x64, .f32⟩ : BufTy).Contents (Elt F)),
    binary main_v43 main_v44 main_v45 (subf : (⟨S16x64x64, .f32⟩ : BufTy).Contents (Elt F) → (⟨S16x64x64, .f32⟩ : BufTy).Contents (Elt F) → (⟨S16x64x64, .f32⟩ : BufTy).Contents (Elt F)),
    unary main_v45 main_v46 (Host.absf : (⟨S16x64x64, .f32⟩ : BufTy).Contents (Elt F) → (⟨S16x64x64, .f32⟩ : BufTy).Contents (Elt F)),
    nullary main_cst_8 (constant S_ .f32 0x7F800000#32),
    binary main_v46 main_cst_8 main_v47 ((fun x v => Host.reduce FloatOps.minimumf x v reducesTo_S16x64x64_S16_d1_2 h_S_) : (⟨S16x64x64, .f32⟩ : BufTy).Contents (Elt F) → (⟨S_, .f32⟩ : BufTy).Contents (Elt F) → (⟨S16, .f32⟩ : BufTy).Contents (Elt F)),
    unary main_v47 main_v48 (broadcastInDim S16x1x1 ![0] bcast_S16_S16x1x1_0 : (⟨S16, .f32⟩ : BufTy).Contents (Elt F) → (⟨S16x1x1, .f32⟩ : BufTy).Contents (Elt F)),
    nullary main_cst_9 (constant S_ .f32 0xFF800000#32),
    binary main_v46 main_cst_9 main_v49 ((fun x v => Host.reduce FloatOps.maximumf x v reducesTo_S16x64x64_S16_d1_2 h_S_) : (⟨S16x64x64, .f32⟩ : BufTy).Contents (Elt F) → (⟨S_, .f32⟩ : BufTy).Contents (Elt F) → (⟨S16, .f32⟩ : BufTy).Contents (Elt F)),
    unary main_v49 main_v50 (broadcastInDim S16x1x1 ![0] bcast_S16_S16x1x1_0 : (⟨S16, .f32⟩ : BufTy).Contents (Elt F) → (⟨S16x1x1, .f32⟩ : BufTy).Contents (Elt F)),
    unary main_v48 main_v51 (broadcastInDim S16x64x64 ![0, 1, 2] bcast_S16x1x1_S16x64x64_0_1_2 : (⟨S16x1x1, .f32⟩ : BufTy).Contents (Elt F) → (⟨S16x64x64, .f32⟩ : BufTy).Contents (Elt F)),
    binary main_v46 main_v51 main_v52 (subf : (⟨S16x64x64, .f32⟩ : BufTy).Contents (Elt F) → (⟨S16x64x64, .f32⟩ : BufTy).Contents (Elt F) → (⟨S16x64x64, .f32⟩ : BufTy).Contents (Elt F)),
    binary main_v50 main_v48 main_v53 (subf : (⟨S16x1x1, .f32⟩ : BufTy).Contents (Elt F) → (⟨S16x1x1, .f32⟩ : BufTy).Contents (Elt F) → (⟨S16x1x1, .f32⟩ : BufTy).Contents (Elt F)),
    unary main_v53 main_v54 (broadcastInDim S16x64x64 ![0, 1, 2] bcast_S16x1x1_S16x64x64_0_1_2 : (⟨S16x1x1, .f32⟩ : BufTy).Contents (Elt F) → (⟨S16x64x64, .f32⟩ : BufTy).Contents (Elt F)),
    binary main_v52 main_v54 main_v55 (Host.divf : (⟨S16x64x64, .f32⟩ : BufTy).Contents (Elt F) → (⟨S16x64x64, .f32⟩ : BufTy).Contents (Elt F) → (⟨S16x64x64, .f32⟩ : BufTy).Contents (Elt F)),
    unary main_v55 main_v56 (broadcastInDim S16x64x8x64 ![0, 1, 3] bcast_S16x64x64_S16x64x8x64_0_1_3 : (⟨S16x64x64, .f32⟩ : BufTy).Contents (Elt F) → (⟨S16x64x8x64, .f32⟩ : BufTy).Contents (Elt F)),
    reshape main_v56 main_v57 (rfl : (.f32 : EltTy) = .f32) shapeCasts_S16x64x8x64_S16x512x64,
    unary main_v57 main_v58 (broadcastInDim S16x512x64x8 ![0, 1, 2] bcast_S16x512x64_S16x512x64x8_0_1_2 : (⟨S16x512x64, .f32⟩ : BufTy).Contents (Elt F) → (⟨S16x512x64x8, .f32⟩ : BufTy).Contents (Elt F)),
    reshape main_v58 main_v59 (rfl : (.f32 : EltTy) = .f32) shapeCasts_S16x512x64x8_S16x512x512,
    unary main_arg2 main_v60 (broadcastInDim S1x512x512x1 ![1, 2, 3] bcast_S512x512x1_S1x512x512x1_1_2_3 : (⟨S512x512x1, .f32⟩ : BufTy).Contents (Elt F) → (⟨S1x512x512x1, .f32⟩ : BufTy).Contents (Elt F)),
    unary main_v60 main_v61 (broadcastInDim S16x512x512x1 ![0, 1, 2, 3] bcast_S1x512x512x1_S16x512x512x1_0_1_2_3 : (⟨S1x512x512x1, .f32⟩ : BufTy).Contents (Elt F) → (⟨S16x512x512x1, .f32⟩ : BufTy).Contents (Elt F)),
    unary main_v36 main_v62 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v40 main_v63 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v59 main_v64 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    unary main_v4_5 main_v65 (broadcastInDim S16x512x512x1 ![0, 1, 2] bcast_S16x512x512_S16x512x512x1_0_1_2 : (⟨S16x512x512, .f32⟩ : BufTy).Contents (Elt F) → (⟨S16x512x512x1, .f32⟩ : BufTy).Contents (Elt F)),
    nary ![main_v61, main_v62, main_v63, main_v64, main_v65] main_v66 (fun u => (concatenate S16x512x512x5 3 [⟨S16x512x512x1, (u 0 : (⟨S16x512x512x1, .f32⟩ : BufTy).Contents (Elt F))⟩, ⟨S16x512x512x1, (u 1 : (⟨S16x512x512x1, .f32⟩ : BufTy).Contents (Elt F))⟩, ⟨S16x512x512x1, (u 2 : (⟨S16x512x512x1, .f32⟩ : BufTy).Contents (Elt F))⟩, ⟨S16x512x512x1, (u 3 : (⟨S16x512x512x1, .f32⟩ : BufTy).Contents (Elt F))⟩, ⟨S16x512x512x1, (u 4 : (⟨S16x512x512x1, .f32⟩ : BufTy).Contents (Elt F))⟩] concatenates_S16x512x512x1_S16x512x512x1_S16x512x512x1_S16x512x512x1_S16x512x512x1_S16x512x512x5_d3 : (⟨S16x512x512x5, .f32⟩ : BufTy).Contents (Elt F))) ]

/-- The condition's two operations: the bound 64, and the counter compared with it. -/
abbrev condOps : List (HloOp τ sig (Elt F)) :=
  [ nullary main_while0c_c_15 (constantI S_ 32 64#32),
    binary main_v4_3 main_while0c_c_15 main_while0c_v67 (cmpi .slt) ]

/-- The lines before the loop, of one trip, and after the loop. -/
abbrev pre : List (List (HloOp τ sig (Elt F))) := [preOps]
@[inherit_doc pre] abbrev trip : List (List (HloOp τ sig (Elt F))) := [tripOps0, tripOps1, tripOps2, tripOps3, tripOps4]
@[inherit_doc pre] abbrev post : List (List (HloOp τ sig (Elt F))) := [postOps0, postOps1]

/-- A line of the reference's operations in front of others: it touches the core's buffers only and allocates none. -/
theorem plain_cons {ops : List (HloOp τ sig (Elt F))} {rest : List (List (HloOp τ sig (Elt F)))}
    (hs : ops.Forall fun op => op.bufs ⊆ tcRefs τ sig) (hf : ops.Forall fun op => op.fresh = ∅) (h : Plain rest) :
    Plain (ops :: rest) :=
  .cons hs (hf := List.forall_iff_forall_mem.mp hf) h

/-- The line before the loop touches the core's buffers only and allocates none. -/
theorem pre_plain : Plain (pre (F := F)) :=
  plain_cons (by simp only [List.Forall, nullary_bufs_sub, unary_bufs_sub, and_self]) (forall_fresh_of_map rfl) .nil

/-- The lines of one trip touch the core's buffers only and allocate none. -/
theorem trip_plain : Plain (trip (F := F)) := by
  refine plain_cons ?_ (forall_fresh_of_map rfl) <| plain_cons ?_ (forall_fresh_of_map rfl) <|
    plain_cons ?_ (forall_fresh_of_map rfl) <| plain_cons ?_ (forall_fresh_of_map rfl) <|
    plain_cons ?_ (forall_fresh_of_map rfl) .nil <;>
  simp only [List.Forall, nullary_bufs_sub, unary_bufs_sub, binary_bufs_sub, ternary_bufs_sub, unaryIndexed_bufs_sub,
    TRef.unary, TRef.binary, and_self]

/-- The lines after the loop touch the core's buffers only and allocate none. -/
theorem post_plain : Plain (post (F := F)) := by
  refine plain_cons ?_ (forall_fresh_of_map rfl) <| plain_cons ?_ (forall_fresh_of_map rfl) .nil <;>
  simp only [List.Forall, nullary_bufs_sub, unary_bufs_sub, binary_bufs_sub, ternary_bufs_sub, reshape_bufs_sub,
    nary_bufs_sub, and_self]

/-- The programs of the reference. -/
abbrev Program (F : FTy → Type) [FloatOps F] := Prog (TpuEff nD τ sig (Elt F) (HostLoop.Sig (Pipeline.Sig Λ₀ (Fin 0) fun p => (pcfgs (F := F) p).Adm) 1) .tc) PUnit

/-- @main is the line before the loop, the loop, and the lines after it. -/
theorem main_eq (c : Dev nD) :
    main (F := F) c = (Pipeline.chain [seq preOps, HostLoop.enter 0, seq postOps0, seq postOps1] : Program F) := by
  have first : main_part0 (F := F) c = (Pipeline.chainK [seq preOps, HostLoop.enter 0] (seq postOps0) : Program F) := by
    rewrite [chainK_seq_cons, Pipeline.chainK_cons]
    chain_rfl
  have second : main_part1 (F := F) c = (Pipeline.chain [seq postOps1] : Program F) := by
    rewrite [chain_seq_cons]
    chain_rfl
  show (main_part0 (F := F) c >>= fun _ => main_part1 (F := F) c) = _
  rewrite [second, first, Pipeline.chainK_bind_chain]
  chain_rfl

/-- A trip is its five lines. -/
theorem trip_eq : main_while0_body (F := F)
    = (Pipeline.chain [seq tripOps0, seq tripOps1, seq tripOps2, seq tripOps3, seq tripOps4] : Program F) := by
  rewrite [chain_seq_cons, Pipeline.chain_cons, chain_seq_cons, Pipeline.chain_cons, chain_seq_cons]
  chain_rfl

end Cert.RefOps

end

end
-- ==== Proof.RefRun.lean ====
/-
  THE REFERENCE'S RUN: it ends, keeps its arguments, and leaves in its result the picture made of the arguments and of the
  state that the loop's 64 trips reach.
-/
module

public import proofs.«01_k».proof.Proof.RefOps
public import proofs.«01_k».proof.Proof.RefLoop
public import Idealize.ShloMosaic.Lib.Scf.ExitTest
public import Idealize.ShloMosaic.Lib.Scf.Counter

@[expose] public section

noncomputable section

namespace Cert.RefRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen Cert.ReferenceIdeal.Step Cert.RefOps Cert.RefLoop

variable {F : FTy → Type} [FloatOps F]

/-- What the buffers hold before trip `j`: the arguments, the state `s`, the row and column numbers, and `j` in both counters. -/
structure Holds (x : (⟨S16x64, .f32⟩ : BufTy).Contents (Elt F)) (co : (⟨S64x2, .i32⟩ : BufTy).Contents (Elt F))
    (st : (⟨S512x512x1, .f32⟩ : BufTy).Contents (Elt F)) (V : Valuation τ sig (Elt F)) (s : State F) (j : ℕ) : Prop where
  features : V (Proc.devRef .tc main_arg0) = x
  coords : V (Proc.devRef .tc main_arg1) = co
  stamp : V (Proc.devRef .tc main_arg2) = st
  source : V (Proc.devRef .tc main_v4_0) = s.main_v4_0
  rows : V (Proc.devRef .tc main_v4_1) = K_main_v2 (F := F)
  columns : V (Proc.devRef .tc main_v4_2) = K_main_v0 (F := F)
  counter : V (Proc.devRef .tc main_v4_3) = constantI S_ 32 (BitVec.ofNat 32 j)
  number : V (Proc.devRef .tc main_v4_4) = constantI S_ 32 (BitVec.ofNat 32 j)
  picture : V (Proc.devRef .tc main_v4_5) = s.main_v4_5

variable {x : (⟨S16x64, .f32⟩ : BufTy).Contents (Elt F)} {co : (⟨S64x2, .i32⟩ : BufTy).Contents (Elt F)}
  {st : (⟨S512x512x1, .f32⟩ : BufTy).Contents (Elt F)} {V : Valuation τ sig (Elt F)} {s : State F} {j : ℕ}

/-- The counter's next number. -/
theorem next_number (j : ℕ) : addi (constantI S_ 32 (BitVec.ofNat 32 j)) (constantI S_ 32 1#32) = constantI S_ 32 (BitVec.ofNat 32 (j + 1)) := by
  funext i
  show BitVec.ofNat 32 j + 1#32 = BitVec.ofNat 32 (j + 1)
  simp only [BitVec.ofNat_add]

/-- The condition changes none of what the trips hold. -/
theorem holds_cond (h : Holds x co st V s j) : Holds x co st (after condOps V) s j := by
  constructor <;> after_reads_simp
  exacts [h.features, h.coords, h.stamp, h.source, h.rows, h.columns, h.counter, h.number, h.picture]

set_option maxRecDepth 8192 in
/-- A trip takes what is held for one state and number to what is held for the next. -/
theorem holds_trip (h : Holds x co st V s j) : Holds x co st (afterL trip V) (step j s) (j + 1) := by
  constructor <;> simp only [afterL_cons, afterL_nil] <;>
    after_reads_simp [unaryIndexed_result_read, indexContents_cons, indexContents_empty]
  · exact h.features
  · exact h.coords
  · exact h.stamp
  · exact h.source
  · exact h.rows
  · exact h.columns
  · rw [h.counter]; exact next_number j
  · rw [h.number]; exact next_number j
  · rw [h.number, h.source, h.rows, h.columns, h.picture]
    unfold step b52 b51 b50 b49 b48 b47 b46 b45 b44 b43 b42 b41 b40 b39 b38 b37 b36 b35 b34 b33 b32 b31 b30 b29 b28 b27 b26 b25 b24 b23 b22 b21 b20 b19 b18 b17 b16 b15 b14 b13 b12 b11 b10 b9 b8 b7 b6 b5 b4 b3 b2
    rfl

/-- The line before the loop leaves what trip 0 starts from. -/
theorem holds_entry (m : (ℓ : Loc nD τ sig) → Buf (Elt F) ℓ) (c : Dev nD) :
    Holds (m ((c.tc : Thread nD τ).loc main_arg0)) (m ((c.tc : Thread nD τ).loc main_arg1))
      (m ((c.tc : Thread nD τ).loc main_arg2)) (entryContents pre m c) (init (m ((c.tc : Thread nD τ).loc main_arg0))) 0 := by
  constructor <;> simp only [entryContents, afterL_cons, afterL_nil] <;> after_reads_simp <;> rfl

variable (m : (ℓ : Loc nD τ sig) → Buf (Elt F) ℓ) (ρ : Dev nD → PrngReg) (c : Dev nD)

/-- Before each run of the condition the buffers hold the state reached so far. -/
theorem holds_at : ∀ k, Holds (m ((c.tc : Thread nD τ).loc main_arg0)) (m ((c.tc : Thread nD τ).loc main_arg1))
    (m ((c.tc : Thread nD τ).loc main_arg2)) (atTrip condOps trip (entryContents pre m) k c)
    (states (m ((c.tc : Thread nD τ).loc main_arg0)) k) k
  | 0 => holds_entry m c
  | k + 1 => holds_trip (holds_cond (holds_at k))

-- the rule for an operation is stated for any thread
set_option backward.isDefEq.respectTransparency.types false in
/-- The condition runs, and goes on while the counter is below 64. -/
theorem condition : CondSpec (pcfgs (F := F)) defs₀ loops (main_while0_cond (F := F)) condOps trip (entryContents pre m) 64 := by
  intro k hk c bd
  have number := (holds_at m c k).counter
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps trip (entryContents pre m) k c) main_v4_3 HostLoop.idx0)
        (HloOp.result _ (atTrip condOps trip (entryContents pre m) k c) main_while0c_c_15 HostLoop.idx0) = 1#1) (k < 64)
    rw [nullary_result_ne _ _ _ _ (by decide), nullary_result, number]
    have at_number : BitVec.ofNat 32 k = Scf.iv 0#32 1#32 k := by
      simp only [Scf.iv]
      bv_omega
    show Iff (IntOp.cmpi .slt (BitVec.ofNat 32 k) 64#32 = 1#1) (k < 64)
    rw [at_number]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

set_option maxRecDepth 100000 in
/-- @main runs, and leaves in every buffer what the three lines and the 64 trips leave there. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps pre trip post 64 m c (Proc.devRef .tc b)) :=
  run_loop (pcfgs (F := F)) defs₀ loops main 0 main_while0_cond main_while0_body rfl pre trip post condOps pre_plain trip_plain
    post_plain (fun c => by rw [main_eq]; rfl) (by rw [trip_eq]; rfl) 64 m ρ (condition m)

/-- Three coordinate columns joined: equal columns, equal triples. -/
theorem triple_congr {a a' b b' c c' : (⟨S16x64x1, .i32⟩ : BufTy).Contents (Elt F)} (ha : a = a') (hb : b = b') (hc : c = c') :
    (concatenate S16x64x3 2 [⟨S16x64x1, a⟩, ⟨S16x64x1, b⟩, ⟨S16x64x1, c⟩] concatenates_S16x64x1_S16x64x1_S16x64x1_S16x64x3_d2
        : (⟨S16x64x3, .i32⟩ : BufTy).Contents (Elt F))
      = concatenate S16x64x3 2 [⟨S16x64x1, a'⟩, ⟨S16x64x1, b'⟩, ⟨S16x64x1, c'⟩] concatenates_S16x64x1_S16x64x1_S16x64x1_S16x64x3_d2 := by
  rw [ha, hb, hc]

/-- Five channels joined: equal channels, equal pictures. -/
theorem picture_congr {a a' b b' c c' d d' e e' : (⟨S16x512x512x1, .f32⟩ : BufTy).Contents (Elt F)} (ha : a = a') (hb : b = b')
    (hc : c = c') (hd : d = d') (he : e = e') :
    (concatenate S16x512x512x5 3 [⟨S16x512x512x1, a⟩, ⟨S16x512x512x1, b⟩, ⟨S16x512x512x1, c⟩, ⟨S16x512x512x1, d⟩,
        ⟨S16x512x512x1, e⟩] concatenates_S16x512x512x1_S16x512x512x1_S16x512x512x1_S16x512x512x1_S16x512x512x1_S16x512x512x5_d3
        : (⟨S16x512x512x5, .f32⟩ : BufTy).Contents (Elt F))
      = concatenate S16x512x512x5 3 [⟨S16x512x512x1, a'⟩, ⟨S16x512x512x1, b'⟩, ⟨S16x512x512x1, c'⟩, ⟨S16x512x512x1, d'⟩,
        ⟨S16x512x512x1, e'⟩] concatenates_S16x512x512x1_S16x512x512x1_S16x512x512x1_S16x512x512x1_S16x512x512x1_S16x512x512x5_d3 := by
  rw [ha, hb, hc, hd, he]

set_option maxRecDepth 8192 in
/-- What the lines after the loop leave in the result: the picture of the arguments and of the state held. -/
theorem result_after (h : Holds x co st V s j) : afterL post V (Proc.devRef .tc main_v66) = R_main_v66 s x co st := by
  rw [← h.features, ← h.coords, ← h.stamp]
  unfold R_main_v66
  rw [← h.picture]
  simp only [afterL_cons, afterL_nil]
  refine Eq.trans (b := _) (by after_reads_simp; rfl)
    (picture_congr (F := F) (a := upto (postOps1 (F := F)) (after (postOps0 (F := F)) V) 24 (Proc.devRef .tc main_v61))
      (b := upto (postOps1 (F := F)) (after (postOps0 (F := F)) V) 24 (Proc.devRef .tc main_v62))
      (c := upto (postOps1 (F := F)) (after (postOps0 (F := F)) V) 24 (Proc.devRef .tc main_v63))
      (d := upto (postOps1 (F := F)) (after (postOps0 (F := F)) V) 24 (Proc.devRef .tc main_v64))
      (e := upto (postOps1 (F := F)) (after (postOps0 (F := F)) V) 24 (Proc.devRef .tc main_v65)) ?_ ?_ ?_ ?_ ?_)
  · after_reads_simp
  · after_reads_simp
    refine congrArg (fun i : (⟨S16x64x3, .i32⟩ : BufTy).Contents (Elt F) => broadcastInDim S16x512x512x1 ![0, 1, 2]
      bcast_S16x512x512_S16x512x512x1_0_1_2 (Host.scatterAdd (F := F) scatter_S16x512x512_S16x64x3_S16x64_n_012_012_2 _ i _)) ?_
    dsimp only [Matrix.cons_val]
    refine triple_congr (F := F) ?_ ?_ ?_
    · after_reads_simp
    · after_reads_simp
      rfl
    · after_reads_simp
      rfl
  · after_reads_simp
    rfl
  · after_reads_simp
    rfl
  · after_reads_simp

/-- The lines after the loop keep the arguments. -/
theorem kept_after (h : Holds x co st V s j) : afterL post V (Proc.devRef .tc main_arg0) = x
    ∧ afterL post V (Proc.devRef .tc main_arg1) = co ∧ afterL post V (Proc.devRef .tc main_arg2) = st := by
  simp only [afterL_cons, afterL_nil]
  after_reads_simp
  exact ⟨h.features, h.coords, h.stamp⟩

/-- The reference runs; its result is the picture of the arguments and of state 64, and it keeps its arguments. -/
theorem run : θ_run (defs (F := F)) (onTc (τ := τ) (main (F := F))) ⟨m, fun _ => 0, ρ⟩ fun r => ∀ c : Dev nD,
    r.2.mem ((c.tc : Thread nD τ).loc main_v66)
        = R_main_v66 (states (m ((c.tc : Thread nD τ).loc main_arg0)) 64) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have held := holds_cond (holds_at m c 64)
    have kept := kept_after held
    ⟨(h c main_v66 rfl).trans (result_after held), (h c main_arg0 rfl).trans kept.1, (h c main_arg1 rfl).trans kept.2.1,
      (h c main_arg2 rfl).trans kept.2.2⟩) (run_fold m ρ)

end Cert.RefRun

end

end
-- ==== Proof.lean ====
/-
  THE CLAIM: the programs run and keep their arguments, and the kernel and the reference write the same picture when no
  coordinate is negative.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_coords_not_negative
public import proofs.«01_k».proof.Proof.Array
public import proofs.«01_k».proof.Proof.RefImage
public import proofs.«01_k».proof.Proof.RefRun
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.SL.Sem Cert.Image

/-- The precondition read back: no coordinate is negative. -/
theorem not_negative (x : FVec Ideal Cert.Pre_coords_not_negative.S16x64 .f32) (co : IVec Cert.Pre_coords_not_negative.S64x2 32)
    (st : FVec Ideal Cert.Pre_coords_not_negative.S512x512x1 .f32)
    (hp : Cert.Pre_coords_not_negative.fn (F := Ideal) x co st = fun _ => 1#1) (d : Fin 64) (k : Fin 2) :
    (0#32 : BitVec 32).sle (co (ix2 d k)) = true := by
  haveI : Subsingleton Cert.Pre_coords_not_negative.S_.Idx := ⟨fun _ _ => funext fun a => a.elim0⟩
  have h := Host.reduce_andi_all _ _ _ _ (fun a => a.elim0) (congrFun hp fun a => a.elim0) (ix2 d k)
  exact (cmpi_sge_iff _ _).1 h

/-- The reference's run: the result holds every sample's picture and the arguments are kept. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (hco : ∀ (c : Dev Cert.ReferenceIdeal.nD) (d : Fin 64) (k : Fin 2), (0#32 : BitVec 32).sle
      (m ((c.tc : Thread Cert.ReferenceIdeal.nD Cert.ReferenceIdeal.τ).loc Cert.ReferenceIdeal.main_arg1) (ix2 d k)) = true) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v66)
          = (fun y : Cert.ReferenceIdeal.S16x512x512x5.Idx => Cert.RefImage.image
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (y 0) (y 1) (y 2) (y 3))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2) :=
  (θ_run Cert.ReferenceIdeal.defs _ _).mono
    (fun _ h c => ⟨(h c).1.trans (funext fun y => Cert.RefImage.result _ _ _ (hco c) y), (h c).2⟩)
    (Cert.RefRun.run m ρ)

/-- The reference runs, keeps its arguments and ends with every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0 :=
  (θ_run Cert.ReferenceIdeal.defs _ _).mono
    (fun r h => ⟨fun c => (h c).2, sem_eq_zero_of_no_sems (by decide) r.2⟩)
    (Cert.RefRun.run (F := Ideal) m ρ)

/-- The kernel and the reference write the same picture when no coordinate is negative. -/
theorem algebraic : algebraic_KernelIdeal_ReferenceIdeal_pre_coords_not_negative := by
  intro m g m' g' hp ha
  refine ⟨_, Cert.Array.run m g, ?_⟩
  refine (θ_run Cert.ReferenceIdeal.defs _ _).mono (fun r h c => ⟨(h c).1.trans ?_, (h c).2⟩)
    (reference_run m' g' fun c d k => ?_)
  · rw [(ha c).2.1]
    exact not_negative _ _ _ (hp c) d k
  · rw [(ha c).1, (ha c).2.1, (ha c).2.2]

/-- Everything the certificate claims. -/
theorem claim : Cert.Claim :=
  ⟨Cert.Kernel.Gen.facts, Cert.KernelIdeal.Gen.facts, Cert.ReferenceIdeal.Gen.facts, Cert.Pre_coords_not_negative.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, algebraic⟩

end Cert.Proof

end
